-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale" .f32 0x3D13CD3A#32 (((Real.sqrt 768)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1025x768 : Shape := ⟨3, ![16, 1025, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S_ : Shape := ⟨0, ![]⟩

class Facts : Prop where
  bcast_S_S16x1025x768 : S_.BroadcastsInDim S16x1025x768 (![] : Fin 0 → Fin S16x1025x768.rank)
  reducesTo_S16x1025x768_S_d0_1_2 : S16x1025x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1536x768 : S_.BroadcastsInDim S1536x768 (![] : Fin 0 → Fin S1536x768.rank)
  reducesTo_S1536x768_S_d0_1 : S1536x768.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S1536 .f32) (main_v14 : IVec S_ 1) (main_v15 : FVec F S1536x768 .f32) (main_cst_5 : FVec F S_ .f32) : IVec S_ 1 :=
  let main_v16 : FVec F S1536x768 .f32 := broadcastInDim S1536x768 ![] bcast_S_S1536x768 main_cst_5
  let main_v17 : IVec S1536x768 1 := cmpf .olt main_v15 main_v16
  let main_c_6 : IVec S_ 1 := constantI S_ 1 1#1
  let main_v18 : IVec S_ 1 := (fun x v => Host.reduce IntOp.andi x v reducesTo_S1536x768_S_d0_1 h_S_) main_v17 main_c_6
  let main_v19 : IVec S_ 1 := andi main_v14 main_v18
  let main_v20 : FVec F S1536 .f32 := Host.absf main_arg4
  let main_cst_7 : FVec F S_ .f32 := constant S_ .f32 0x7F800000#32
  let main_v21 : FVec F S1536 .f32 := broadcastInDim S1536 ![] bcast_S_S1536 main_cst_7
  let main_v22 : IVec S1536 1 := cmpf .olt main_v20 main_v21
  let main_c_8 : IVec S_ 1 := constantI S_ 1 1#1
  let main_v23 : IVec S_ 1 := (fun x v => Host.reduce IntOp.andi x v reducesTo_S1536_S_d0 h_S_) main_v22 main_c_8
  let main_v24 : IVec S_ 1 := andi main_v19 main_v23
  main_v24

def fn {F : FTy → Type} [FloatOps F] (main_arg0 : FVec F S16x1025x768 .f32) (main_arg1 : FVec F S768x768 .f32) (main_arg2 : FVec F S768 .f32) (main_arg3 : FVec F S1536x768 .f32) (main_arg4 : FVec F S1536 .f32) (main_arg5 : FVec F S1536x768 .f32) (main_arg6 : FVec F S1536 .f32) : IVec S_ 1 :=
  let main_v0 : FVec F S16x1025x768 .f32 := Host.absf main_arg0
  let main_cst : FVec F S_ .f32 := constant S_ .f32 0x7F800000#32
  let main_v1 : FVec F S16x1025x768 .f32 := broadcastInDim S16x1025x768 ![] bcast_S_S16x1025x768 main_cst
  let main_v2 : IVec S16x1025x768 1 := cmpf .olt main_v0 main_v1
  let main_c : IVec S_ 1 := constantI S_ 1 1#1
  let main_v3 : IVec S_ 1 := (fun x v => Host.reduce IntOp.andi x v reducesTo_S16x1025x768_S_d0_1_2 h_S_) main_v2 main_c
  let main_c_0 : IVec S_ 1 := constantI S_ 1 1#1
  let main_v4 : IVec S_ 1 := andi main_c_0 main_v3
  let main_v5 : FVec F S768x768 .f32 := Host.absf main_arg1
  let main_cst_1 : FVec F S_ .f32 := constant S_ .f32 0x7F800000#32
  let main_v6 : FVec F S768x768 .f32 := broadcastInDim S768x768 ![] bcast_S_S768x768 main_cst_1
  let main_v7 : IVec S768x768 1 := cmpf .olt main_v5 main_v6
  let main_c_2 : IVec S_ 1 := constantI S_ 1 1#1
  let main_v8 : IVec S_ 1 := (fun x v => Host.reduce IntOp.andi x v reducesTo_S768x768_S_d0_1 h_S_) main_v7 main_c_2
  let main_v9 : IVec S_ 1 := andi main_v4 main_v8
  let main_v10 : FVec F S768 .f32 := Host.absf main_arg2
  let main_cst_3 : FVec F S_ .f32 := constant S_ .f32 0x7F800000#32
  let main_v11 : FVec F S768 .f32 := broadcastInDim S768 ![] bcast_S_S768 main_cst_3
  let main_v12 : IVec S768 1 := cmpf .olt main_v10 main_v11
  let main_c_4 : IVec S_ 1 := constantI S_ 1 1#1
  let main_v13 : IVec S_ 1 := (fun x v => Host.reduce IntOp.andi x v reducesTo_S768_S_d0 h_S_) main_v12 main_c_4
  let main_v14 : IVec S_ 1 := andi main_v9 main_v13
  let main_v15 : FVec F S1536x768 .f32 := Host.absf main_arg3
  let main_cst_5 : FVec F S_ .f32 := constant S_ .f32 0x7F800000#32
  fn_part1 (F := F) main_arg4 main_v14 main_v15 main_cst_5
-- ==== Kernel.lean ====
abbrev S16x1025x768 : Shape := ⟨3, ![16, 1025, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S16x1024x768 : Shape := ⟨3, ![16, 1024, 768]⟩
abbrev S16x768x1024 : Shape := ⟨3, ![16, 768, 1024]⟩
abbrev S16x1x768 : Shape := ⟨3, ![16, 1, 768]⟩
abbrev S16x768 : Shape := ⟨2, ![16, 768]⟩
abbrev S1x768 : Shape := ⟨2, ![1, 768]⟩
abbrev S1x1536 : Shape := ⟨2, ![1, 1536]⟩
abbrev S16x1x1536 : Shape := ⟨3, ![16, 1, 1536]⟩
abbrev S1x768x1024 : Shape := ⟨3, ![1, 768, 1024]⟩
abbrev S1x1x768 : Shape := ⟨3, ![1, 1, 768]⟩
abbrev S1x1x1536 : Shape := ⟨3, ![1, 1, 1536]⟩
abbrev S768x1024 : Shape := ⟨2, ![768, 1024]⟩
abbrev S1024x64 : Shape := ⟨2, ![1024, 64]⟩
abbrev S768x64 : Shape := ⟨2, ![768, 64]⟩
abbrev S1x64 : Shape := ⟨2, ![1, 64]⟩
abbrev S64x64 : Shape := ⟨2, ![64, 64]⟩
abbrev S64 : Shape := ⟨1, ![64]⟩
abbrev S64x1024 : Shape := ⟨2, ![64, 1024]⟩
abbrev S1x1024 : Shape := ⟨2, ![1, 1024]⟩
abbrev S12x768 : Shape := ⟨2, ![12, 768]⟩
abbrev S12x1024 : Shape := ⟨2, ![12, 1024]⟩
abbrev S12 : Shape := ⟨1, ![12]⟩
abbrev S12x1 : Shape := ⟨2, ![12, 1]⟩

abbrev nBuf : Space → Nat
  | .hbm => 22
  | .vmem => 12
  | .smem => 0
  | _ => 0

abbrev bufTy : (tb : Table) → Fin (tcTables nBuf tb) → BufTy
  | .hbm, ⟨0, _⟩ => ⟨S16x1025x768, .f32⟩
  | .hbm, ⟨1, _⟩ => ⟨S768x768, .f32⟩
  | .hbm, ⟨2, _⟩ => ⟨S768, .f32⟩
  | .hbm, ⟨3, _⟩ => ⟨S1536x768, .f32⟩
  | .hbm, ⟨4, _⟩ => ⟨S1536, .f32⟩
  | .hbm, ⟨5, _⟩ => ⟨S1536x768, .f32⟩
  | .hbm, ⟨6, _⟩ => ⟨S1536, .f32⟩
  | .hbm, ⟨7, _⟩ => ⟨S16x1024x768, .f32⟩
  | .hbm, ⟨8, _⟩ => ⟨S16x768x1024, .f32⟩
  | .hbm, ⟨9, _⟩ => ⟨S16x768x1024, .bf16⟩
  | .hbm, ⟨10, _⟩ => ⟨S16x1x768, .f32⟩
  | .hbm, ⟨11, _⟩ => ⟨S16x768, .f32⟩
  | .hbm, ⟨12, _⟩ => ⟨S16x1x768, .f32⟩
  | .hbm, ⟨13, _⟩ => ⟨S16x1x768, .bf16⟩
  | .hbm, ⟨14, _⟩ => ⟨S1x768, .f32⟩
  | .hbm, ⟨15, _⟩ => ⟨S768, .f32⟩
  | .hbm, ⟨16, _⟩ => ⟨S1x768, .f32⟩
  | .hbm, ⟨17, _⟩ => ⟨S1x1536, .f32⟩
  | .hbm, ⟨18, _⟩ => ⟨S768x768, .bf16⟩
  | .hbm, ⟨19, _⟩ => ⟨S1536x768, .bf16⟩
  | .hbm, ⟨20, _⟩ => ⟨S1536x768, .bf16⟩
  | .hbm, ⟨21, _⟩ => ⟨S16x1x1536, .f32⟩
  | .local _ .vmem, ⟨0, _⟩ => ⟨S1x768x1024, .bf16⟩
  | .local _ .vmem, ⟨1, _⟩ => ⟨S1x768x1024, .bf16⟩
  | .local _ .vmem, ⟨2, _⟩ => ⟨S1x1x768, .bf16⟩
  | .local _ .vmem, ⟨3, _⟩ => ⟨S1x1x768, .bf16⟩
  | .local _ .vmem, ⟨4, _⟩ => ⟨S768x768, .bf16⟩
  | .local _ .vmem, ⟨5, _⟩ => ⟨S1x768, .f32⟩
  | .local _ .vmem, ⟨6, _⟩ => ⟨S1536x768, .bf16⟩
  | .local _ .vmem, ⟨7, _⟩ => ⟨S1x768, .f32⟩
  | .local _ .vmem, ⟨8, _⟩ => ⟨S1536x768, .bf16⟩
  | .local _ .vmem, ⟨9, _⟩ => ⟨S1x1536, .f32⟩
  | .local _ .vmem, ⟨10, _⟩ => ⟨S1x1x1536, .f32⟩
  | .local _ .vmem, ⟨11, _⟩ => ⟨S1x1x1536, .f32⟩
  | _, _ => ⟨S16x1025x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | "scale" => some (((Real.sqrt 768)⁻¹ : ℝ) : EReal)
  | _ => none
-- ==== ReferenceIdeal.lean ====
abbrev S16x1025x768 : Shape := ⟨3, ![16, 1025, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S16x1024x768 : Shape := ⟨3, ![16, 1024, 768]⟩
abbrev S16x768x32x32 : Shape := ⟨4, ![16, 768, 32, 32]⟩
abbrev S16x1x768 : Shape := ⟨3, ![16, 1, 768]⟩
abbrev S16x768 : Shape := ⟨2, ![16, 768]⟩
abbrev S1x768 : Shape := ⟨2, ![1, 768]⟩
abbrev S1536x16x32x32 : Shape := ⟨4, ![1536, 16, 32, 32]⟩
abbrev S16x1536x32x32 : Shape := ⟨4, ![16, 1536, 32, 32]⟩
abbrev S1x1536x1x1 : Shape := ⟨4, ![1, 1536, 1, 1]⟩
abbrev S16x768x8x4x8x4 : Shape := ⟨6, ![16, 768, 8, 4, 8, 4]⟩
abbrev S_ : Shape := ⟨0, ![]⟩
abbrev S16x768x8x8 : Shape := ⟨4, ![16, 768, 8, 8]⟩
abbrev S16x768x64 : Shape := ⟨3, ![16, 768, 64]⟩
abbrev S16x1x64 : Shape := ⟨3, ![16, 1, 64]⟩
abbrev S16x1x32 : Shape := ⟨3, ![16, 1, 32]⟩
abbrev S16x1x1x32 : Shape := ⟨4, ![16, 1, 1, 32]⟩
abbrev S16x12x1x32 : Shape := ⟨4, ![16, 12, 1, 32]⟩
abbrev S16x1x12x64 : Shape := ⟨4, ![16, 1, 12, 64]⟩
abbrev S16x12x1x64 : Shape := ⟨4, ![16, 12, 1, 64]⟩
abbrev S16x12x64x8x4x8x4 : Shape := ⟨7, ![16, 12, 64, 8, 4, 8, 4]⟩
abbrev S16x12x8x8x4x4x64 : Shape := ⟨7, ![16, 12, 8, 8, 4, 4, 64]⟩
abbrev S16x12x64x16x64 : Shape := ⟨5, ![16, 12, 64, 16, 64]⟩
abbrev S16x12x1x32x1x1 : Shape := ⟨6, ![16, 12, 1, 32, 1, 1]⟩
abbrev S16x12x1x32x16x64 : Shape := ⟨6, ![16, 12, 1, 32, 16, 64]⟩
abbrev S16x12x1x64x16x64 : Shape := ⟨6, ![16, 12, 1, 64, 16, 64]⟩
abbrev S16x12x32x16x64x1 : Shape := ⟨6, ![16, 12, 32, 16, 64, 1]⟩
abbrev S1 : Shape := ⟨1, ![1]⟩
abbrev S1x1x1x1x1x1 : Shape := ⟨6, ![1, 1, 1, 1, 1, 1]⟩
abbrev S16x12x32x16x64 : Shape := ⟨5, ![16, 12, 32, 16, 64]⟩
abbrev S16x12x1x1x64 : Shape := ⟨5, ![16, 12, 1, 1, 64]⟩
abbrev S16x12x1x512x64 : Shape := ⟨5, ![16, 12, 1, 512, 64]⟩
abbrev S16x12x1x1x512 : Shape := ⟨5, ![16, 12, 1, 1, 512]⟩
abbrev S16x12x1x1 : Shape := ⟨4, ![16, 12, 1, 1]⟩
abbrev S16x12x1x1x1 : Shape := ⟨5, ![16, 12, 1, 1, 1]⟩
abbrev S768x1536 : Shape := ⟨2, ![768, 1536]⟩
abbrev S16x1536 : Shape := ⟨2, ![16, 1536]⟩
abbrev S1x1536 : Shape := ⟨2, ![1, 1536]⟩
abbrev S16x1x1536 : Shape := ⟨3, ![16, 1, 1536]⟩

abbrev nBuf : Space → Nat
  | .hbm => 121
  | .vmem => 0
  | .smem => 0
  | _ => 0

abbrev bufTy : (tb : Table) → Fin (tcTables nBuf tb) → BufTy
  | .hbm, ⟨0, _⟩ => ⟨S16x1025x768, .f32⟩
  | .hbm, ⟨1, _⟩ => ⟨S768x768, .f32⟩
  | .hbm, ⟨2, _⟩ => ⟨S768, .f32⟩
  | .hbm, ⟨3, _⟩ => ⟨S1536x768, .f32⟩
  | .hbm, ⟨4, _⟩ => ⟨S1536, .f32⟩
  | .hbm, ⟨5, _⟩ => ⟨S1536x768, .f32⟩
  | .hbm, ⟨6, _⟩ => ⟨S1536, .f32⟩
  | .hbm, ⟨7, _⟩ => ⟨S16x1024x768, .f32⟩
  | .hbm, ⟨8, _⟩ => ⟨S16x768x32x32, .f32⟩
  | .hbm, ⟨9, _⟩ => ⟨S16x1x768, .f32⟩
  | .hbm, ⟨10, _⟩ => ⟨S16x768, .f32⟩
  | .hbm, ⟨11, _⟩ => ⟨S768x768, .f32⟩
  | .hbm, ⟨12, _⟩ => ⟨S16x768, .f32⟩
  | .hbm, ⟨13, _⟩ => ⟨S1x768, .f32⟩
  | .hbm, ⟨14, _⟩ => ⟨S16x768, .f32⟩
  | .hbm, ⟨15, _⟩ => ⟨S16x768, .f32⟩
  | .hbm, ⟨16, _⟩ => ⟨S16x1x768, .f32⟩
  | .hbm, ⟨17, _⟩ => ⟨S1536x16x32x32, .f32⟩
  | .hbm, ⟨18, _⟩ => ⟨S16x1536x32x32, .f32⟩
  | .hbm, ⟨19, _⟩ => ⟨S1x1536x1x1, .f32⟩
  | .hbm, ⟨20, _⟩ => ⟨S16x1536x32x32, .f32⟩
  | .hbm, ⟨21, _⟩ => ⟨S16x1536x32x32, .f32⟩
  | .hbm, ⟨22, _⟩ => ⟨S16x768x32x32, .f32⟩
  | .hbm, ⟨23, _⟩ => ⟨S16x768x32x32, .f32⟩
  | .hbm, ⟨24, _⟩ => ⟨S16x768x8x4x8x4, .f32⟩
  | .hbm, ⟨25, _⟩ => ⟨S_, .f32⟩
  | .hbm, ⟨26, _⟩ => ⟨S16x768x8x8, .f32⟩
  | .hbm, ⟨27, _⟩ => ⟨S16x768x64, .f32⟩
  | .hbm, ⟨28, _⟩ => ⟨S16x1x64, .f32⟩
  | .hbm, ⟨29, _⟩ => ⟨S16x1x32, .f32⟩
  | .hbm, ⟨30, _⟩ => ⟨S16x1x32, .i32⟩
  | .hbm, ⟨31, _⟩ => ⟨S16x1x1x32, .i32⟩
  | .hbm, ⟨32, _⟩ => ⟨S16x12x1x32, .i32⟩
  | .hbm, ⟨33, _⟩ => ⟨S16x1x12x64, .f32⟩
  | .hbm, ⟨34, _⟩ => ⟨S16x12x1x64, .f32⟩
  | .hbm, ⟨35, _⟩ => ⟨S16x12x64x8x4x8x4, .f32⟩
  | .hbm, ⟨36, _⟩ => ⟨S16x12x8x8x4x4x64, .f32⟩
  | .hbm, ⟨37, _⟩ => ⟨S16x12x64x16x64, .f32⟩
  | .hbm, ⟨38, _⟩ => ⟨S16x12x64x8x4x8x4, .f32⟩
  | .hbm, ⟨39, _⟩ => ⟨S16x12x8x8x4x4x64, .f32⟩
  | .hbm, ⟨40, _⟩ => ⟨S16x12x64x16x64, .f32⟩
  | .hbm, ⟨41, _⟩ => ⟨S16x12x1x32x1x1, .i32⟩
  | .hbm, ⟨42, _⟩ => ⟨S16x12x1x32x16x64, .i32⟩
  | .hbm, ⟨43, _⟩ => ⟨S16x12x1x64x16x64, .f32⟩
  | .hbm, ⟨44, _⟩ => ⟨S16x12x1x64x16x64, .f32⟩
  | .hbm, ⟨45, _⟩ => ⟨S_, .i32⟩
  | .hbm, ⟨46, _⟩ => ⟨S16x12x1x32x16x64, .i32⟩
  | .hbm, ⟨47, _⟩ => ⟨S16x12x1x32x16x64, .i1⟩
  | .hbm, ⟨48, _⟩ => ⟨S_, .i32⟩
  | .hbm, ⟨49, _⟩ => ⟨S16x12x1x32x16x64, .i32⟩
  | .hbm, ⟨50, _⟩ => ⟨S16x12x1x32x16x64, .i32⟩
  | .hbm, ⟨51, _⟩ => ⟨S16x12x1x32x16x64, .i32⟩
  | .hbm, ⟨52, _⟩ => ⟨S16x12x32x16x64x1, .i32⟩
  | .hbm, ⟨53, _⟩ => ⟨S1, .i32⟩
  | .hbm, ⟨54, _⟩ => ⟨S_, .i32⟩
  | .hbm, ⟨55, _⟩ => ⟨S16x12x32x16x64x1, .i32⟩
  | .hbm, ⟨56, _⟩ => ⟨S16x12x32x16x64x1, .i1⟩
  | .hbm, ⟨57, _⟩ => ⟨S1x1x1x1x1x1, .i32⟩
  | .hbm, ⟨58, _⟩ => ⟨S16x12x32x16x64x1, .i32⟩
  | .hbm, ⟨59, _⟩ => ⟨S16x12x32x16x64x1, .i1⟩
  | .hbm, ⟨60, _⟩ => ⟨S16x12x32x16x64x1, .i1⟩
  | .hbm, ⟨61, _⟩ => ⟨S_, .i1⟩
  | .hbm, ⟨62, _⟩ => ⟨S16x12x32x16x64, .i1⟩
  | .hbm, ⟨63, _⟩ => ⟨S16x12x1x32x16x64, .f32⟩
  | .hbm, ⟨64, _⟩ => ⟨S16x12x1x32x16x64, .i1⟩
  | .hbm, ⟨65, _⟩ => ⟨S_, .f32⟩
  | .hbm, ⟨66, _⟩ => ⟨S16x12x1x32x16x64, .f32⟩
  | .hbm, ⟨67, _⟩ => ⟨S16x12x1x32x16x64, .f32⟩
  | .hbm, ⟨68, _⟩ => ⟨S_, .i32⟩
  | .hbm, ⟨69, _⟩ => ⟨S16x12x1x32x16x64, .i32⟩
  | .hbm, ⟨70, _⟩ => ⟨S16x12x1x32x16x64, .i1⟩
  | .hbm, ⟨71, _⟩ => ⟨S_, .i32⟩
  | .hbm, ⟨72, _⟩ => ⟨S16x12x1x32x16x64, .i32⟩
  | .hbm, ⟨73, _⟩ => ⟨S16x12x1x32x16x64, .i32⟩
  | .hbm, ⟨74, _⟩ => ⟨S16x12x1x32x16x64, .i32⟩
  | .hbm, ⟨75, _⟩ => ⟨S16x12x32x16x64x1, .i32⟩
  | .hbm, ⟨76, _⟩ => ⟨S1, .i32⟩
  | .hbm, ⟨77, _⟩ => ⟨S_, .i32⟩
  | .hbm, ⟨78, _⟩ => ⟨S16x12x32x16x64x1, .i32⟩
  | .hbm, ⟨79, _⟩ => ⟨S16x12x32x16x64x1, .i1⟩
  | .hbm, ⟨80, _⟩ => ⟨S1x1x1x1x1x1, .i32⟩
  | .hbm, ⟨81, _⟩ => ⟨S16x12x32x16x64x1, .i32⟩
  | .hbm, ⟨82, _⟩ => ⟨S16x12x32x16x64x1, .i1⟩
  | .hbm, ⟨83, _⟩ => ⟨S16x12x32x16x64x1, .i1⟩
  | .hbm, ⟨84, _⟩ => ⟨S_, .i1⟩
  | .hbm, ⟨85, _⟩ => ⟨S16x12x32x16x64, .i1⟩
  | .hbm, ⟨86, _⟩ => ⟨S16x12x1x32x16x64, .f32⟩
  | .hbm, ⟨87, _⟩ => ⟨S16x12x1x32x16x64, .i1⟩
  | .hbm, ⟨88, _⟩ => ⟨S_, .f32⟩
  | .hbm, ⟨89, _⟩ => ⟨S16x12x1x32x16x64, .f32⟩
  | .hbm, ⟨90, _⟩ => ⟨S16x12x1x32x16x64, .f32⟩
  | .hbm, ⟨91, _⟩ => ⟨S16x12x1x1x64, .f32⟩
  | .hbm, ⟨92, _⟩ => ⟨S_, .f32⟩
  | .hbm, ⟨93, _⟩ => ⟨S_, .f32⟩
  | .hbm, ⟨94, _⟩ => ⟨S16x12x1x1x64, .f32⟩
  | .hbm, ⟨95, _⟩ => ⟨S16x12x1x1x64, .f32⟩
  | .hbm, ⟨96, _⟩ => ⟨S16x12x1x512x64, .f32⟩
  | .hbm, ⟨97, _⟩ => ⟨S16x12x1x512x64, .f32⟩
  | .hbm, ⟨98, _⟩ => ⟨S16x12x1x1x512, .f32⟩
  | .hbm, ⟨99, _⟩ => ⟨S_, .f32⟩
  | .hbm, ⟨100, _⟩ => ⟨S16x12x1x1, .f32⟩
  | .hbm, ⟨101, _⟩ => ⟨S_, .f32⟩
  | .hbm, ⟨102, _⟩ => ⟨S16x12x1x1, .f32⟩
  | .hbm, ⟨103, _⟩ => ⟨S16x12x1x1, .f32⟩
  | .hbm, ⟨104, _⟩ => ⟨S16x12x1x1x1, .f32⟩
  | .hbm, ⟨105, _⟩ => ⟨S16x12x1x1x512, .f32⟩
  | .hbm, ⟨106, _⟩ => ⟨S16x12x1x1x512, .f32⟩
  | .hbm, ⟨107, _⟩ => ⟨S16x12x1x1x512, .f32⟩
  | .hbm, ⟨108, _⟩ => ⟨S_, .f32⟩
  | .hbm, ⟨109, _⟩ => ⟨S16x12x1x1, .f32⟩
  | .hbm, ⟨110, _⟩ => ⟨S16x12x1x1x1, .f32⟩
  | .hbm, ⟨111, _⟩ => ⟨S16x12x1x1x512, .f32⟩
  | .hbm, ⟨112, _⟩ => ⟨S16x12x1x1x512, .f32⟩
  | .hbm, ⟨113, _⟩ => ⟨S16x12x1x1x64, .f32⟩
  | .hbm, ⟨114, _⟩ => ⟨S16x768, .f32⟩
  | .hbm, ⟨115, _⟩ => ⟨S768x1536, .f32⟩
  | .hbm, ⟨116, _⟩ => ⟨S16x1536, .f32⟩
  | .hbm, ⟨117, _⟩ => ⟨S1x1536, .f32⟩
  | .hbm, ⟨118, _⟩ => ⟨S16x1536, .f32⟩
  | .hbm, ⟨119, _⟩ => ⟨S16x1536, .f32⟩
  | .hbm, ⟨120, _⟩ => ⟨S16x1x1536, .f32⟩
  | _, _ => ⟨S16x1025x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_values : Ref sig .tc := ⟨.hbm, 29, rfl⟩
abbrev main_indices : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v35 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_cst : Ref sig .tc := ⟨.hbm, 88, rfl⟩
abbrev main_call1_v15 : Ref sig .tc := ⟨.hbm, 89, rfl⟩
abbrev main_v36 : Ref sig .tc := ⟨.hbm, 90, rfl⟩
abbrev main_v37 : Ref sig .tc := ⟨.hbm, 91, rfl⟩
abbrev main_cst_0 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_cst_1 : Ref sig .tc := ⟨.hbm, 99, rfl⟩
abbrev main_v44 : Ref sig .tc := ⟨.hbm, 100, rfl⟩
abbrev main_cst_2 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_3 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩

abbrev nD : Nat := 1
abbrev τ : Topo := Topo.v7x

variable {F : FTy → Type} [FloatOps F]
-- ==== Proof.Frames.lean ====
/-
  The claims that say nothing of the result's value: each program runs, leaves its arguments as they were and
  every semaphore at zero; and the named constants are what the ledger says they are.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

namespace Cert.Frames

open Idealize.ShloMosaic Idealize.SL.Sem

attribute [local instance] Cert.Kernel.Gen.facts Cert.KernelIdeal.Gen.facts Cert.ReferenceIdeal.Gen.facts Cert.Pre_finite.Gen.facts

/-- The kernel as printed, on words. -/
theorem kernel : Cert.quiescent_Kernel := fun m ρ _ => Cert.Kernel.Gen.frame m ρ

/-- The kernel on extended reals. -/
theorem kernelIdeal : Cert.quiescent_KernelIdeal := fun m ρ _ => Cert.KernelIdeal.Gen.frame m ρ

/-- The kernel on extended reals, from finite arguments. -/
theorem kernelIdeal_finite : Cert.quiescent_KernelIdeal_pre_finite := fun m ρ _ => Cert.KernelIdeal.Gen.frame m ρ

/-- The reference on extended reals: a host program has no semaphore, and its run leaves the arguments alone. -/
theorem referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference on extended reals, from finite arguments. -/
theorem referenceIdeal_finite : Cert.quiescent_ReferenceIdeal_pre_finite := fun m ρ _ => referenceIdeal m ρ trivial

/-- The scale is named, and denotes `768 ^ (-1/2)`; the mask is named, and denotes minus infinity. -/
theorem preserves : Cert.preserves_Kernel_KernelIdeal :=
  ⟨IdealRules.named_const.statement Cert.KernelIdeal.κ "scale" .f32 0x3D13CD3A#32 (((Real.sqrt 768)⁻¹ : ℝ) : EReal) rfl,
    IdealRules.named_const.statement Cert.KernelIdeal.κ "mask" .f32 0xF149F2CA#32 ⊥ rfl⟩

end Cert.Frames

end
-- ==== Proof.Ranking.lean ====
/-
  Ranking 64 regions by score, ties to the smaller number.

  `rank a j` counts the regions placed ahead of region `j`.  Sorting the regions by decreasing score with a stable sort
  puts region `j` at position `rank a j`, so the first 32 sorted regions are exactly those of rank below 32.
-/
module

public import Idealize.ShloMosaic.Lib.SortFacts
public import Mathlib.Data.Real.Basic
public import Mathlib.Data.Finset.Card
public import Mathlib.Data.Fintype.Card

@[expose] public section

noncomputable section

namespace Cert.Routing

open Idealize.ShloMosaic

variable {n : Nat}

/-- Region `i` is ahead of region `j`: a larger score, or the same score and a smaller number. -/
def Ahead (a : Fin n → ℝ) (i j : Fin n) : Prop := a j < a i ∨ (a i = a j ∧ i < j)

open Classical in
/-- How many regions are ahead of region `j`. -/
def rank (a : Fin n → ℝ) (j : Fin n) : ℕ := (Finset.univ.filter fun i => Ahead a i j).card

theorem Ahead.trans {a : Fin n → ℝ} {i j k : Fin n} (h : Ahead a i j) (h' : Ahead a j k) : Ahead a i k := by
  rcases h with h | ⟨h, hij⟩ <;> rcases h' with h' | ⟨h', hjk⟩
  · exact .inl (h'.trans h)
  · exact .inl (h' ▸ h)
  · exact .inl (h ▸ h')
  · exact .inr ⟨h.trans h', hij.trans hjk⟩

theorem Ahead.irrefl (a : Fin n → ℝ) (i : Fin n) : ¬ Ahead a i i := by
  rintro (h | ⟨-, h⟩) <;> exact lt_irrefl _ h

/-- Adding one constant to every score changes no rank. -/
theorem rank_add (a : Fin n → ℝ) (t : ℝ) (j : Fin n) : rank (fun i => a i + t) j = rank a j := by
  have h : Ahead (fun i => a i + t) = Ahead a := by
    funext i j
    simp only [Ahead, add_lt_add_iff_right, add_left_inj]
  unfold rank
  rw [h]

/-- Inserting a position smaller than all the others keeps the list in order. -/
theorem pairwise_insert (a : Fin n → ℝ) (before : Fin n → Fin n → Bool) (hb : ∀ i j, before i j = decide (a j < a i))
    (i : Fin n) (l : List (Fin n)) (hi : ∀ j ∈ l, i < j) (hl : l.Pairwise (Ahead a)) :
    (insertBefore before i l).Pairwise (Ahead a) := by
  induction l with
  | nil => exact List.pairwise_singleton _ _
  | cons b l ih =>
    have hl' := List.pairwise_cons.mp hl
    unfold insertBefore
    split
    · rename_i h
      rw [hb, decide_eq_true_eq] at h
      refine List.pairwise_cons.mpr ⟨fun c hc => ?_, ih (fun j hj => hi j (List.mem_cons_of_mem _ hj)) hl'.2⟩
      rcases List.mem_cons.mp ((perm_insertBefore before i l).mem_iff.mp hc) with rfl | hc'
      · exact .inl h
      · exact hl'.1 c hc'
    · rename_i h
      rw [hb, decide_eq_true_eq, not_lt] at h
      have hab : Ahead a i b := by
        rcases h.lt_or_eq with h | h
        · exact .inl h
        · exact .inr ⟨h.symm, hi b List.mem_cons_self⟩
      refine List.pairwise_cons.mpr ⟨fun c hc => ?_, hl⟩
      rcases List.mem_cons.mp hc with rfl | hc'
      · exact hab
      · exact hab.trans (hl'.1 c hc')

/-- The stable sort by decreasing score lists the regions in order. -/
theorem pairwise_sort (a : Fin n → ℝ) (before : Fin n → Fin n → Bool) (hb : ∀ i j, before i j = decide (a j < a i))
    (l : List (Fin n)) (hl : l.Pairwise (· < ·)) : (stableSort before l).Pairwise (Ahead a) := by
  induction l with
  | nil => exact List.Pairwise.nil
  | cons i l ih =>
    have hl' := List.pairwise_cons.mp hl
    unfold stableSort
    exact pairwise_insert a before hb i _ (fun j hj => hl'.1 j ((perm_stableSort before l).mem_iff.mp hj)) (ih hl'.2)

/-- Sorted positions are in order. -/
theorem ahead_sortedFrom (a : Fin n → ℝ) (before : Fin n → Fin n → Bool) (hb : ∀ i j, before i j = decide (a j < a i))
    (k k' : Fin n) (h : k < k') : Ahead a (sortedFrom before k) (sortedFrom before k') := by
  have hp : ∀ i j : Fin (sortPositions n before).length, i < j →
      Ahead a ((sortPositions n before).get i) ((sortPositions n before).get j) :=
    List.pairwise_iff_get.mp (pairwise_sort a before hb (List.finRange n) (List.pairwise_lt_finRange n))
  exact hp _ _ (by simp only [Fin.lt_def, Fin.val_cast]; exact h)

/-- The region sorted to position `k` has rank `k`. -/
theorem rank_sortedFrom (a : Fin n → ℝ) (before : Fin n → Fin n → Bool) (hb : ∀ i j, before i j = decide (a j < a i))
    (k : Fin n) : rank a (sortedFrom before k) = k.val := by
  classical
  have hs : (Finset.univ.filter fun i => Ahead a i (sortedFrom before k)) =
      (Finset.Iio k).image (sortedFrom before) := by
    ext i
    obtain ⟨k', rfl⟩ := sortedFrom_surjective before i
    simp only [Finset.mem_filter, Finset.mem_univ, true_and, Finset.mem_image, Finset.mem_Iio]
    constructor
    · intro h
      refine ⟨k', ?_, rfl⟩
      rcases lt_trichotomy k' k with h' | rfl | h'
      · exact h'
      · exact absurd h (Ahead.irrefl _ _)
      · exact absurd (h.trans (ahead_sortedFrom a before hb _ _ h')) (Ahead.irrefl _ _)
    · rintro ⟨k'', h, e⟩
      exact e ▸ ahead_sortedFrom a before hb _ _ h
  unfold rank
  convert (congrArg Finset.card hs).trans (Finset.card_image_of_injective _ (sortedFrom_injective before)) using 1
  rw [Fin.card_Iio]

end Cert.Routing
-- ==== Proof.Layout.lean ====
/-
  The 32 × 32 picture cut into 64 regions of 4 × 4 places.

  Location `l` of the flattened picture lies in region `region l`, at place `place l` of it; `site r t` is the
  location at place `t` of region `r`.
-/
module

public import proofs.«01_k».proof.Proof.Ranking
public import Mathlib.Algebra.BigOperators.Group.Finset.Basic

@[expose] public section

noncomputable section

namespace Cert.Routing

open Idealize.ShloMosaic

/-- The region a location lies in. -/
def region (l : Fin 1024) : Fin 64 := ⟨l.val / 128 * 8 + l.val % 32 / 4, by omega⟩

/-- A location's place in its region. -/
def place (l : Fin 1024) : Fin 16 := ⟨l.val / 32 % 4 * 4 + l.val % 4, by omega⟩

/-- The location at a place of a region. -/
def site (r : Fin 64) (t : Fin 16) : Fin 1024 :=
  ⟨r.val / 8 * 128 + t.val / 4 * 32 + r.val % 8 * 4 + t.val % 4, by omega⟩

theorem region_site (r : Fin 64) (t : Fin 16) : region (site r t) = r := by
  apply Fin.ext; simp only [region, site]; omega

theorem place_site (r : Fin 64) (t : Fin 16) : place (site r t) = t := by
  apply Fin.ext; simp only [place, site]; omega

theorem site_region_place (l : Fin 1024) : site (region l) (place l) = l := by
  apply Fin.ext; simp only [region, place, site]; omega

/-- The region sorted to position `e / 16`, and in it the location at place `e % 16`: the `e`-th gathered location. -/
def gathered (σ : Fin 64 → Fin 64) (e : Fin 512) : Fin 1024 :=
  site (σ ⟨e.val / 16, by omega⟩) ⟨e.val % 16, by omega⟩

open Classical in
/-- A sum over the 32 × 16 gathered locations is the sum over the locations whose region has rank below 32. -/
theorem sum_gathered {M : Type} [AddCommMonoid M] (a : Fin 64 → ℝ) (before : Fin 64 → Fin 64 → Bool)
    (hb : ∀ i j, before i j = decide (a j < a i)) (g : Fin 1024 → M) :
    ∑ e : Fin 512, g (gathered (sortedFrom before) e)
      = ∑ l ∈ Finset.univ.filter (fun l => rank a (region l) < 32), g l := by
  have hinj : Function.Injective (gathered (sortedFrom before)) := by
    intro e e' h
    have h1 := congrArg region h
    have h2 := congrArg place h
    simp only [gathered, region_site, place_site] at h1 h2
    have h1' := Fin.val_eq_of_eq (sortedFrom_injective before h1)
    have h2' := Fin.val_eq_of_eq h2
    simp only at h1' h2'
    apply Fin.ext; omega
  have himg : Finset.univ.filter (fun l => rank a (region l) < 32)
      = Finset.univ.image (gathered (sortedFrom before)) := by
    ext l
    simp only [Finset.mem_filter, Finset.mem_univ, true_and, Finset.mem_image]
    constructor
    · intro h
      obtain ⟨k, hk⟩ := sortedFrom_surjective before (region l)
      rw [← hk, rank_sortedFrom a before hb] at h
      refine ⟨⟨k.val * 16 + (place l).val, by have := (place l).isLt; omega⟩, ?_⟩
      unfold gathered
      have e1 : (⟨(k.val * 16 + (place l).val) / 16, by have := (place l).isLt; omega⟩ : Fin 64) = k := by
        apply Fin.ext; have := (place l).isLt; simp only; omega
      have e2 : (⟨(k.val * 16 + (place l).val) % 16, by omega⟩ : Fin 16) = place l := by
        apply Fin.ext; have := (place l).isLt; simp only; omega
      simp only [e1, e2, hk, site_region_place]
    · rintro ⟨e, rfl⟩
      simp only [gathered, region_site]
      rw [rank_sortedFrom a before hb]
      simp only
      omega
  rw [himg, Finset.sum_image fun _ _ _ _ h => hinj h]

end Cert.Routing
-- ==== Proof.Masks.lean ====
/-
  The kernel's integer masks, entry by entry: which location comes first in its region, which region a location lies in,
  which head a channel belongs to.
-/
module

public import proofs.«01_k».proof.Proof.Gen.KernelIdeal.Frame
public import proofs.«01_k».proof.Proof.Layout
public import Idealize.ShloMosaic.Lib.Pointwise

@[expose] public section

set_option maxRecDepth 16384

noncomputable section

namespace Cert.KernelIdeal.Body

open Cert.KernelIdeal Cert.KernelIdeal.Gen Cert.Routing Idealize.ShloMosaic

/-- A column's region column: the truncated quotient by 4 with its sign correction. -/
theorem quarter (k : Nat) (hk : k < 32) :
    Scalar.select
        (IntOp.andi
          (IntOp.cmpi .ne
            (IntOp.subi (BitVec.setWidth 32 (IntOp.cmpi .sgt (BitVec.ofNat 32 k) 0#32))
              (BitVec.setWidth 32 (IntOp.cmpi .slt (BitVec.ofNat 32 k) 0#32)))
            (Scalar.subi (Scalar.extui (Scalar.cmpi .sgt 4#32 0#32)) (Scalar.extui (Scalar.cmpi .slt 4#32 0#32))))
          (IntOp.cmpi .ne (IntOp.remsi ArithUnit.vector (BitVec.ofNat 32 k) 4#32) 0#32))
        (IntOp.subi (IntOp.divsi ArithUnit.vector (BitVec.ofNat 32 k) 4#32) 1#32)
        (IntOp.divsi ArithUnit.vector (BitVec.ofNat 32 k) 4#32)
      = BitVec.ofNat 32 (k / 4) := by
  have h : ∀ k : Fin 32, Scalar.select
        (IntOp.andi
          (IntOp.cmpi .ne
            (IntOp.subi (BitVec.setWidth 32 (IntOp.cmpi .sgt (BitVec.ofNat 32 k.val) 0#32))
              (BitVec.setWidth 32 (IntOp.cmpi .slt (BitVec.ofNat 32 k.val) 0#32)))
            (Scalar.subi (Scalar.extui (Scalar.cmpi .sgt 4#32 0#32)) (Scalar.extui (Scalar.cmpi .slt 4#32 0#32))))
          (IntOp.cmpi .ne (IntOp.remsi ArithUnit.vector (BitVec.ofNat 32 k.val) 4#32) 0#32))
        (IntOp.subi (IntOp.divsi ArithUnit.vector (BitVec.ofNat 32 k.val) 4#32) 1#32)
        (IntOp.divsi ArithUnit.vector (BitVec.ofNat 32 k.val) 4#32)
      = BitVec.ofNat 32 (k.val / 4) := by decide +kernel
  exact h ⟨k, hk⟩

/-- Comparing a region number with another. -/
theorem same_region (l : Fin 1024) (r : Fin 64) :
    IntOp.cmpi .eq (IntOp.addi (BitVec.ofNat 32 (l.val / 128 * 8)) (BitVec.ofNat 32 (l.val % 32 / 4)))
        (BitVec.ofNat 32 r.val)
      = BitVec.ofBool (decide (region l = r)) := by
  have h : IntOp.addi (BitVec.ofNat 32 (l.val / 128 * 8)) (BitVec.ofNat 32 (l.val % 32 / 4))
      = BitVec.ofNat 32 (region l).val := (BitVec.ofNat_add _ _).symm
  rw [h]
  generalize region l = k
  show BitVec.ofBool (_ == _) = _
  congr 1
  rw [Bool.eq_iff_iff, beq_iff_eq, decide_eq_true_eq]
  constructor
  · intro e
    have e' := congrArg BitVec.toNat e
    simp only [BitVec.toNat_ofNat] at e'
    apply Fin.ext
    have := k.isLt; have := r.isLt
    omega
  · rintro rfl; rfl

/-- A bit widened to a word and turned into a number. -/
theorem number_of_bit (p : Prop) [Decidable p] :
    FloatOps.sitofp (F := Ideal) .f32 (BitVec.setWidth 32 (BitVec.ofBool (decide p))) = if p then (1 : EReal) else 0 := by
  by_cases h : p
  · simp only [h, decide_true]
    show (((BitVec.setWidth 32 (BitVec.ofBool true)).toInt : ℝ) : EReal) = _
    simp
  · simp only [h, decide_false]
    show (((BitVec.setWidth 32 (BitVec.ofBool false)).toInt : ℝ) : EReal) = _
    simp

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem or_bits (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem less (i j : Fin 64) :
    IntOp.cmpi .slt (BitVec.ofNat 32 i.val) (BitVec.ofNat 32 j.val) = BitVec.ofBool (decide (i < j)) := by
  revert i j; decide +kernel

/-- The first location of a region, by its coordinates. -/
theorem first_site (l : Fin 1024) (r : Fin 64) :
    ((l.val % 4 = 0 ∧ l.val / 32 % 4 = 0) ∧ region l = r) ↔ l = site r 0 := by
  constructor
  · rintro ⟨⟨h, h'⟩, rfl⟩
    apply Fin.ext; simp only [region, site]; simp; omega
  · rintro rfl
    refine ⟨?_, region_site r 0⟩
    simp only [site]; simp; omega

/-- The mask of the regions' first locations. -/
theorem first_apply (l : Fin 1024) (r : Fin 64) :
    k0_pay14 (k0_pay10 (Scalar.select (Scalar.cmpi .eq 4#32 0#32) 1#32 4#32) k0_pay6 k0_pay7 k0_pay8 k0_pay9)
        (k0_pay11 (iota .tc S1024x64 32 [0] iota_S1024x64_d0_w32)) (k0_pay12 (iota .tc S1024x64 32 [0] iota_S1024x64_d0_w32))
        (k0_pay13 (iota .tc S1024x64 32 [0] iota_S1024x64_d0_w32)) (ix2 l r)
      = BitVec.ofBool (decide (l.val % 4 = 0 ∧ l.val / 32 % 4 = 0)) := by
  pointwise [k0_pay14, k0_pay10, k0_pay6, k0_pay7, k0_pay8, k0_pay9, k0_pay11, k0_pay12, k0_pay13]
  clear r
  revert l
  decide +kernel

/-- The number of the first region in a location's row of regions. -/
theorem rowStart_apply (l : Fin 1024) (r : Fin 64) :
    k0_pay15 (iota .tc S1024x64 32 [0] iota_S1024x64_d0_w32) (ix2 l r) = BitVec.ofNat 32 (l.val / 128 * 8) := by
  pointwise [k0_pay15]
  clear r
  revert l
  decide +kernel

/-- A location's column. -/
theorem column_apply (l : Fin 1024) (r : Fin 64) :
    Scalar.select (k0_pay17 (iota .tc S1024x64 32 [0] iota_S1024x64_d0_w32) (ix2 l r))
        (k0_pay18 (iota .tc S1024x64 32 [0] iota_S1024x64_d0_w32) (ix2 l r))
        (k0_pay16 (iota .tc S1024x64 32 [0] iota_S1024x64_d0_w32) (ix2 l r))
      = BitVec.ofNat 32 (l.val % 32) := by
  pointwise [k0_pay16, k0_pay17, k0_pay18]
  clear r
  revert l
  decide +kernel

/-- The number of the first region in a location's row of regions, in the transposed layout. -/
theorem rowStart_apply' (r : Fin 64) (l : Fin 1024) :
    k0_pay20 (iota .tc S64x1024 32 [1] iota_S64x1024_d1_w32) (ix2 r l) = BitVec.ofNat 32 (l.val / 128 * 8) := by
  pointwise [k0_pay20]
  clear r
  revert l
  decide +kernel

/-- A location's column, in the transposed layout. -/
theorem column_apply' (r : Fin 64) (l : Fin 1024) :
    k0_pay21 (iota .tc S64x1024 32 [1] iota_S64x1024_d1_w32) (ix2 r l) = BitVec.ofNat 32 (l.val % 32) := by
  pointwise [k0_pay21]
  clear r
  revert l
  decide +kernel

/-- A location's column divided by 4, in the transposed layout. -/
theorem columnQuarter_apply' (r : Fin 64) (l : Fin 1024) :
    k0_pay22 (iota .tc S64x1024 32 [1] iota_S64x1024_d1_w32) (ix2 r l)
      = IntOp.divsi .vector (BitVec.ofNat 32 (l.val % 32)) 4#32 := by
  unfold k0_pay22
  rw [← column_apply' r l]
  generalize k0_pay21 _ = v
  pointwise

/-- Channel `c` belongs to head `h`: the truncated quotient by 64 with its sign correction. -/
theorem head_apply (h : Fin 12) (c : Fin 768) :
    IntOp.cmpi .eq (Scalar.select
        (IntOp.andi
          (IntOp.cmpi .ne (k0_pay25 (ix2 h c))
            (Scalar.subi (Scalar.extui (Scalar.cmpi .sgt 64#32 0#32)) (Scalar.extui (Scalar.cmpi .slt 64#32 0#32))))
          (IntOp.cmpi .ne (IntOp.remsi ArithUnit.vector (iota .tc S12x768 32 [1] iota_S12x768_d1_w32 (ix2 h c)) 64#32) 0#32))
        (IntOp.subi (k0_pay24 (ix2 h c)) 1#32) (k0_pay24 (ix2 h c))) (iota .tc S12x768 32 [0] iota_S12x768_d0_w32 (ix2 h c))
      = BitVec.ofBool (decide (c.val / 64 = h.val)) := by
  pointwise [k0_pay24, k0_pay25]
  revert h c
  decide +kernel

end Cert.KernelIdeal.Body
-- ==== Proof.Softmax.lean ====
/-
  The softmax of real scores in the extended reals.

  Scores that are dropped stand at −∞.  Whatever real number is subtracted from all the scores before the exponential,
  the normalised weight of a kept score is `weight`, an ordinary real number, and the weight of a dropped one is zero.
-/
module

public import Idealize.ShloMosaic.PureOps.Ideal
public import Mathlib.Algebra.BigOperators.Field
public import Mathlib.Analysis.SpecialFunctions.Exp

@[expose] public section

noncomputable section

namespace Cert.Routing

open Idealize.ShloMosaic

/-- A sum of reals is the same sum in the extended reals. -/
theorem coe_sum {ι : Type} (s : Finset ι) (f : ι → ℝ) : ((∑ i ∈ s, f i : ℝ) : EReal) = ∑ i ∈ s, (f i : EReal) := by
  classical
  induction s using Finset.induction with
  | empty => simp
  | insert i s hi ih => rw [Finset.sum_insert hi, Finset.sum_insert hi, EReal.coe_add, ih]

/-- The largest of finitely many values, none of them +∞ and not all of them −∞, is a real number. -/
theorem exists_real_max {ι : Type} (s : Finset ι) (f : ι → EReal) (ht : ∀ i ∈ s, f i ≠ ⊤) (hb : ∃ i ∈ s, f i ≠ ⊥) :
    ∃ m : ℝ, s.fold max ⊥ f = (m : EReal) := by
  have h1 : s.fold max ⊥ f ≠ ⊤ := by
    have : s.fold max ⊥ f < ⊤ := (Finset.fold_max_lt _).mpr ⟨bot_lt_top, fun i hi => lt_top_iff_ne_top.mpr (ht i hi)⟩
    exact this.ne
  have h2 : s.fold max ⊥ f ≠ ⊥ := by
    obtain ⟨i, hi, h⟩ := hb
    have : ⊥ < s.fold max ⊥ f := (Finset.lt_fold_max _).mpr (.inr ⟨i, hi, bot_lt_iff_ne_bot.mpr h⟩)
    exact this.ne'
  exact ⟨_, (EReal.coe_toReal h1 h2).symm⟩

/-- The largest of finitely many reals, in the extended reals. -/
theorem fold_max_eq {ι κ : Type} (s : Finset ι) (f : ι → EReal) (t : Finset κ) (ht : t.Nonempty) (g : κ → ℝ)
    (hfg : ∀ i ∈ s, ∃ k ∈ t, f i = (g k : EReal)) (hgf : ∀ k ∈ t, ∃ i ∈ s, f i = (g k : EReal)) :
    s.fold max ⊥ f = ((t.sup' ht g : ℝ) : EReal) := by
  apply le_antisymm
  · refine (Finset.fold_max_le _).mpr ⟨bot_le, fun i hi => ?_⟩
    obtain ⟨k, hk, e⟩ := hfg i hi
    rw [e, EReal.coe_le_coe_iff]
    exact Finset.le_sup' g hk
  · obtain ⟨k, hk, e⟩ := Finset.exists_mem_eq_sup' ht g
    obtain ⟨i, hi, e'⟩ := hgf k hk
    rw [e, ← e']
    exact (Finset.le_fold_max _).mpr (.inr ⟨i, hi, le_refl _⟩)

/-- The normalised exponential weight of a score among the scores of `s`. -/
def weight {ι : Type} (s : Finset ι) (score : ι → ℝ) (i : ι) : ℝ :=
  Real.exp (score i) / ∑ k ∈ s, Real.exp (score k)

theorem sum_exp_pos {ι : Type} (s : Finset ι) (hs : s.Nonempty) (score : ι → ℝ) : 0 < ∑ k ∈ s, Real.exp (score k) :=
  Finset.sum_pos (fun _ _ => Real.exp_pos _) hs

theorem sum_weight {ι : Type} (s : Finset ι) (hs : s.Nonempty) (score : ι → ℝ) : ∑ i ∈ s, weight s score i = 1 := by
  unfold weight
  rw [← Finset.sum_div, div_self (sum_exp_pos s hs score).ne']

/-- Adding one constant to every score changes no weight. -/
theorem weight_add {ι : Type} (s : Finset ι) (score : ι → ℝ) (t : ℝ) (i : ι) :
    weight s (fun k => score k + t) i = weight s score i := by
  unfold weight
  simp only [Real.exp_add]
  rw [← Finset.sum_mul, mul_div_mul_right _ _ (Real.exp_pos t).ne']

/-- The quotient a softmax computes, for scores of which some are dropped to −∞ and any real `m` subtracted. -/
theorem softmax_eq {ι : Type} [Fintype ι] (p : ι → Prop) [DecidablePred p] (hp : ∃ i, p i) (score : ι → ℝ)
    (x : ι → EReal) (hx : ∀ i, x i = if p i then (score i : EReal) else ⊥) (m : ℝ) (i : ι) :
    Ideal.div (Ideal.exp (x i - (m : EReal))) (∑ k, Ideal.exp (x k - (m : EReal)))
      = ((if p i then weight (Finset.univ.filter p) score i else 0 : ℝ) : EReal) := by
  have he : ∀ k, Ideal.exp (x k - (m : EReal)) = ((if p k then Real.exp (score k + -m) else 0 : ℝ) : EReal) := by
    intro k
    rw [hx]
    by_cases h : p k
    · rw [if_pos h, if_pos h, ← EReal.coe_sub, Ideal.exp_coe, sub_eq_add_neg]
    · rw [if_neg h, if_neg h, EReal.bot_sub, Ideal.exp_bot, EReal.coe_zero]
  have hs : (Finset.univ.filter p).Nonempty := by
    obtain ⟨k, hk⟩ := hp
    exact ⟨k, Finset.mem_filter.mpr ⟨Finset.mem_univ _, hk⟩⟩
  have hpos := sum_exp_pos _ hs fun k => score k + -m
  simp only [he]
  rw [← coe_sum, ← Finset.sum_filter, Ideal.div_coe hpos.ne', ← EReal.coe_mul]
  congr 1
  rw [ite_mul, zero_mul, ← weight_add _ score (-m)]
  unfold weight
  rw [mul_one_div]

end Cert.Routing
-- ==== Proof.Attention.lean ====
/-
  Region-routed attention of one query over the reals.

  `q` is the query, `K` and `V` hold one key and one value per channel and location.  A region's score is the query's
  product with the channel-wise largest keys of the region; the locations of the 32 best regions are kept, and in each
  head of 64 channels the values at the kept locations are averaged with softmax weights.
-/
module

public import proofs.«01_k».proof.Proof.Layout
public import proofs.«01_k».proof.Proof.Softmax

@[expose] public section

noncomputable section

namespace Cert.Routing

open Idealize.ShloMosaic

/-- The query: the input `u` projected, with its bias. -/
def query (u : Fin 768 → ℝ) (W : Fin 768 → Fin 768 → ℝ) (b : Fin 768 → ℝ) (c : Fin 768) : ℝ := (∑ i, u i * W c i) + b c

/-- The input `Y` projected at every location. -/
def project (W : Fin 768 → Fin 768 → ℝ) (Y : Fin 768 → Fin 1024 → ℝ) (c : Fin 768) (l : Fin 1024) : ℝ :=
  ∑ i, W c i * Y i l

/-- The largest key of a region, channel by channel. -/
def peak (K : Fin 768 → Fin 1024 → ℝ) (c : Fin 768) (r : Fin 64) : ℝ :=
  Finset.univ.sup' Finset.univ_nonempty fun t : Fin 16 => K c (site r t)

/-- The score by which a region is chosen. -/
def affinity (q : Fin 768 → ℝ) (K : Fin 768 → Fin 1024 → ℝ) (r : Fin 64) : ℝ := ∑ c, q c * peak K c r

/-- The score of a location in head `h`. -/
def score (scale : ℝ) (q : Fin 768 → ℝ) (K : Fin 768 → Fin 1024 → ℝ) (h : Fin 12) (l : Fin 1024) : ℝ :=
  (∑ c : Fin 768, if c.val / 64 = h.val then q c * K c l else 0) * scale

/-- A location is kept when fewer than 32 regions are ahead of its own. -/
def Kept (q : Fin 768 → ℝ) (K : Fin 768 → Fin 1024 → ℝ) (l : Fin 1024) : Prop := rank (affinity q K) (region l) < 32

instance (q : Fin 768 → ℝ) (K : Fin 768 → Fin 1024 → ℝ) : DecidablePred (Kept q K) := fun l =>
  inferInstanceAs (Decidable (rank (affinity q K) (region l) < 32))

/-- The kept locations. -/
def kept (q : Fin 768 → ℝ) (K : Fin 768 → Fin 1024 → ℝ) : Finset (Fin 1024) := Finset.univ.filter (Kept q K)

/-- The head of a channel. -/
def head (c : Fin 768) : Fin 12 := ⟨c.val / 64, by omega⟩

/-- The attention's value in channel `c`. -/
def attended (scale : ℝ) (q : Fin 768 → ℝ) (K V : Fin 768 → Fin 1024 → ℝ) (c : Fin 768) : ℝ :=
  ∑ l ∈ kept q K, weight (kept q K) (score scale q K (head c)) l * V c l

/-- Decreasing score. -/
def larger (a : Fin 64 → ℝ) (i j : Fin 64) : Bool := decide (a j < a i)

theorem larger_eq (a : Fin 64 → ℝ) (i j : Fin 64) : larger a i j = decide (a j < a i) := rfl

theorem exists_kept (q : Fin 768 → ℝ) (K : Fin 768 → Fin 1024 → ℝ) : ∃ l, Kept q K l := by
  refine ⟨site (sortedFrom (larger (affinity q K)) 0) 0, ?_⟩
  unfold Kept
  rw [region_site, rank_sortedFrom _ _ (larger_eq _)]
  decide

theorem kept_nonempty (q : Fin 768 → ℝ) (K : Fin 768 → Fin 1024 → ℝ) : (kept q K).Nonempty := by
  obtain ⟨l, h⟩ := exists_kept q K
  exact ⟨l, Finset.mem_filter.mpr ⟨Finset.mem_univ _, h⟩⟩

/-! ## A bias on the keys changes nothing -/

theorem peak_add (K : Fin 768 → Fin 1024 → ℝ) (b : Fin 768 → ℝ) (c : Fin 768) (r : Fin 64) :
    peak (fun c l => K c l + b c) c r = peak K c r + b c := by
  unfold peak
  exact (Finset.comp_sup'_eq_sup'_comp Finset.univ_nonempty (fun x : ℝ => x + b c)
    (fun x y => (max_add_add_right x y (b c)).symm)).symm

theorem affinity_add (q : Fin 768 → ℝ) (K : Fin 768 → Fin 1024 → ℝ) (b : Fin 768 → ℝ) :
    affinity q (fun c l => K c l + b c) = fun r => affinity q K r + ∑ c, q c * b c := by
  funext r
  unfold affinity
  simp only [peak_add, mul_add, Finset.sum_add_distrib]

theorem score_add (scale : ℝ) (q : Fin 768 → ℝ) (K : Fin 768 → Fin 1024 → ℝ) (b : Fin 768 → ℝ) (h : Fin 12) :
    score scale q (fun c l => K c l + b c) h = fun l => score scale q K h l +
      (∑ c : Fin 768, if c.val / 64 = h.val then q c * b c else 0) * scale := by
  funext l
  unfold score
  rw [← add_mul, ← Finset.sum_add_distrib]
  congr 1
  refine Finset.sum_congr rfl fun c _ => ?_
  split
  · rw [mul_add]
  · rw [add_zero]

theorem kept_add (q : Fin 768 → ℝ) (K : Fin 768 → Fin 1024 → ℝ) (b : Fin 768 → ℝ) :
    kept q (fun c l => K c l + b c) = kept q K := by
  unfold kept
  refine Finset.filter_congr fun l _ => ?_
  unfold Kept
  rw [affinity_add, rank_add]

/-- The keys' bias adds one constant per head to the scores and one constant to the region scores, so it drops out. -/
theorem attended_add (scale : ℝ) (q : Fin 768 → ℝ) (K V : Fin 768 → Fin 1024 → ℝ) (b : Fin 768 → ℝ) (c : Fin 768) :
    attended scale q (fun c l => K c l + b c) V c = attended scale q K V c := by
  unfold attended
  rw [kept_add, score_add]
  simp only [weight_add]

/-! ## The two ways of writing the average -/

/-- Gathering the 32 best regions, then averaging over the 512 gathered locations. -/
theorem gathered_eq (scale : ℝ) (q : Fin 768 → ℝ) (K V : Fin 768 → Fin 1024 → ℝ) (c : Fin 768) :
    ∑ e : Fin 512, weight Finset.univ
        (fun e => score scale q K (head c) (gathered (sortedFrom (larger (affinity q K))) e)) e
          * V c (gathered (sortedFrom (larger (affinity q K))) e)
      = attended scale q K V c := by
  unfold weight
  beta_reduce
  rw [sum_gathered (affinity q K) _ (larger_eq _) fun l => Real.exp (score scale q K (head c) l),
    sum_gathered (affinity q K) _ (larger_eq _) fun l => Real.exp (score scale q K (head c) l) /
      (∑ l ∈ Finset.univ.filter (fun l => rank (affinity q K) (region l) < 32),
        Real.exp (score scale q K (head c) l)) * V c l]
  unfold attended weight kept
  have hf : Finset.univ.filter (fun l => rank (affinity q K) (region l) < 32) = Finset.univ.filter (Kept q K) :=
    Finset.filter_congr fun _ _ => Iff.rfl
  rw [hf]

/-- Averaging the input over the kept locations first and projecting the average to a value afterwards. -/
theorem projected_eq (scale : ℝ) (q : Fin 768 → ℝ) (K : Fin 768 → Fin 1024 → ℝ) (W : Fin 768 → Fin 768 → ℝ)
    (Y : Fin 768 → Fin 1024 → ℝ) (b : Fin 768 → ℝ) (c : Fin 768) :
    (∑ i : Fin 768, (∑ l : Fin 1024, (if Kept q K l then weight (kept q K) (score scale q K (head c)) l else 0) * Y i l)
        * W c i) + b c
      = attended scale q K (fun c l => project W Y c l + b c) c := by
  unfold attended project
  simp only [mul_add, Finset.sum_add_distrib]
  rw [← Finset.sum_mul, sum_weight _ (kept_nonempty q K), one_mul]
  congr 1
  simp only [Finset.sum_mul, ite_mul, zero_mul]
  rw [Finset.sum_comm]
  unfold kept
  rw [Finset.sum_filter]
  refine Finset.sum_congr rfl fun l _ => ?_
  split
  · rw [Finset.mul_sum]
    exact Finset.sum_congr rfl fun i _ => by ring
  · simp

/-- A sum over the channels of one head. -/
theorem sum_head {M : Type} [AddCommMonoid M] (h : Fin 12) (f : Fin 768 → M) :
    (∑ c : Fin 768, if c.val / 64 = h.val then f c else 0) = ∑ d : Fin 64, f ⟨h.val * 64 + d.val, by omega⟩ := by
  rw [← Finset.sum_filter]
  refine Finset.sum_nbij' (fun c => ⟨c.val % 64, by omega⟩) (fun d => ⟨h.val * 64 + d.val, by omega⟩) ?_ ?_ ?_ ?_ ?_
  · intro c _; exact Finset.mem_univ _
  · intro d _; simp only [Finset.mem_filter, Finset.mem_univ, true_and]; omega
  · intro c hc; simp only [Finset.mem_filter, Finset.mem_univ, true_and] at hc; apply Fin.ext; simp only; omega
  · intro d _; apply Fin.ext; simp only; omega
  · intro c hc
    simp only [Finset.mem_filter, Finset.mem_univ, true_and] at hc
    congr 1; apply Fin.ext; simp only; omega

/-- The score of a location, its query scaled first and only the head's own channels summed. -/
theorem score_eq (scale : ℝ) (q : Fin 768 → ℝ) (K : Fin 768 → Fin 1024 → ℝ) (h : Fin 12) (l : Fin 1024) :
    score scale q K h l = ∑ d : Fin 64, q ⟨h.val * 64 + d.val, by omega⟩ * scale * K ⟨h.val * 64 + d.val, by omega⟩ l := by
  unfold score
  rw [sum_head h fun c => q c * K c l, Finset.sum_mul]
  exact Finset.sum_congr rfl fun d _ => by ring

end Cert.Routing
-- ==== Proof.Largest.lean ====
/-
  The channel-wise largest keys of the regions: four rotations by 1, 2, 32 and 64 locations, each followed by a maximum, leave
  the maximum over a whole region at the region's first location.
-/
module

public import proofs.«01_k».proof.Proof.Gen.KernelIdeal.Frame
public import proofs.«01_k».proof.Proof.Attention
public import Idealize.ShloMosaic.Lib.Pointwise

@[expose] public section

set_option maxRecDepth 16384

noncomputable section

namespace Cert.KernelIdeal.Body

open Cert.KernelIdeal Cert.KernelIdeal.Gen Cert.Routing Idealize.ShloMosaic

/-- Rotating the last axis by 1023 moves every entry one location to the left. -/
theorem rotate_1023 (v : FVec Ideal S768x1024 .bf16) (c : Fin 768) (l : Fin 1024) :
    dynamicRotate 1 1023#32 none v rotates_S768x1024_d1 (ix2 c l) = v (ix2 c ⟨(l.val + 1) % 1024, by omega⟩) := by
  pointwise
  congr 2
theorem rotate_1022 (v : FVec Ideal S768x1024 .bf16) (c : Fin 768) (l : Fin 1024) :
    dynamicRotate 1 1022#32 none v rotates_S768x1024_d1 (ix2 c l) = v (ix2 c ⟨(l.val + 2) % 1024, by omega⟩) := by
  pointwise
  congr 2
theorem rotate_992 (v : FVec Ideal S768x1024 .bf16) (c : Fin 768) (l : Fin 1024) :
    dynamicRotate 1 992#32 none v rotates_S768x1024_d1 (ix2 c l) = v (ix2 c ⟨(l.val + 32) % 1024, by omega⟩) := by
  pointwise
  congr 2
theorem rotate_960 (v : FVec Ideal S768x1024 .bf16) (c : Fin 768) (l : Fin 1024) :
    dynamicRotate 1 960#32 none v rotates_S768x1024_d1 (ix2 c l) = v (ix2 c ⟨(l.val + 64) % 1024, by omega⟩) := by
  pointwise
  congr 2

theorem coe_max (x y : ℝ) : max (x : EReal) (y : EReal) = ((max x y : ℝ) : EReal) :=
  (EReal.coe_strictMono.monotone.map_max).symm

/-- Moving inside a region. -/
theorem site_shift (r : Fin 64) (t t' : Fin 16) (k : Nat)
    (h : t'.val / 4 * 32 + t'.val % 4 = t.val / 4 * 32 + t.val % 4 + k) :
    (⟨((site r t).val + k) % 1024, Nat.mod_lt _ (by decide)⟩ : Fin 1024) = site r t' := by
  apply Fin.ext; simp only [site]; omega

/-- The nested maximum over the 4 × 4 places of a region. -/
theorem nested_eq_peak (K : Fin 768 → Fin 1024 → ℝ) (c : Fin 768) (r : Fin 64) (f1 f2 f3 : Fin 1024 → ℝ)
    (h1 : ∀ l, f1 l = max (K c l) (K c ⟨(l.val + 1) % 1024, by omega⟩))
    (h2 : ∀ l, f2 l = max (f1 l) (f1 ⟨(l.val + 2) % 1024, by omega⟩))
    (h3 : ∀ l, f3 l = max (f2 l) (f2 ⟨(l.val + 32) % 1024, by omega⟩)) :
    max (f3 (site r 0)) (f3 ⟨((site r 0).val + 64) % 1024, by omega⟩) = peak K c r := by
  rw [site_shift r 0 8 64 (by decide), h3, h3, site_shift r 0 4 32 (by decide), site_shift r 8 12 32 (by decide),
    h2, h2, h2, h2, site_shift r 0 2 2 (by decide), site_shift r 4 6 2 (by decide), site_shift r 8 10 2 (by decide),
    site_shift r 12 14 2 (by decide), h1, h1, h1, h1, h1, h1, h1, h1, site_shift r 0 1 1 (by decide),
    site_shift r 2 3 1 (by decide), site_shift r 4 5 1 (by decide), site_shift r 6 7 1 (by decide),
    site_shift r 8 9 1 (by decide), site_shift r 10 11 1 (by decide), site_shift r 12 13 1 (by decide),
    site_shift r 14 15 1 (by decide)]
  unfold peak
  apply le_antisymm
  · simp only [max_le_iff]
    refine ⟨⟨⟨⟨?_, ?_⟩, ?_, ?_⟩, ⟨?_, ?_⟩, ?_, ?_⟩, ⟨⟨?_, ?_⟩, ?_, ?_⟩, ⟨?_, ?_⟩, ?_, ?_⟩ <;>
      exact Finset.le_sup' (fun t => K c (site r t)) (Finset.mem_univ _)
  · refine Finset.sup'_le _ _ fun t _ => ?_
    fin_cases t <;> simp [le_max_iff]

/-- One rotation and one maximum, on real entries. -/
theorem max_step (v w : FVec Ideal S768x1024 .bf16) (c : Fin 768) (k : Nat) (f : Fin 1024 → ℝ)
    (hv : ∀ l, v (ix2 c l) = (f l : EReal))
    (hw : ∀ l : Fin 1024, w (ix2 c l) = v (ix2 c ⟨(l.val + k) % 1024, by omega⟩)) (l : Fin 1024) :
    maximumf v w (ix2 c l) = ((max (f l) (f ⟨(l.val + k) % 1024, by omega⟩) : ℝ) : EReal) :=
  (congrArg₂ max (hv l) ((hw l).trans (hv _))).trans (coe_max _ _)

/-- The running maximum after four rotations, read at the first location of a region. -/
theorem largest_apply (xs : Vec Ideal S1x768x1024 .bf16) (wk : Vec Ideal S768x768 .bf16) (K : Fin 768 → Fin 1024 → ℝ)
    (hK : ∀ c l, k0_pay4 xs wk (ix2 c l) = (K c l : EReal)) (c : Fin 768) (r : Fin 64) :
    k0_pay5 xs wk (ix2 c (site r 0)) = (peak K c r : EReal) := by
  unfold k0_pay5
  refine (max_step _ _ c 64 _ (max_step _ _ c 32 _ (max_step _ _ c 2 _ (max_step _ _ c 1 _ (hK c)
    (rotate_1023 _ c)) (rotate_1022 _ c)) (rotate_992 _ c)) (rotate_960 _ c) (site r 0)).trans ?_
  exact congrArg _ (nested_eq_peak K c r _ _ _ (fun _ => rfl) (fun _ => rfl) (fun _ => rfl))
end Cert.KernelIdeal.Body
-- ==== Proof.Consts.lean ====
/-
  The literals of the two programs as extended reals.
-/
module

public import Idealize.ShloMosaic.PureOps.Ideal
public import Mathlib.Tactic.NormNum

@[expose] public section

noncomputable section

namespace Cert.Routing

open Idealize.ShloMosaic

/-- The factor of the attention scores, `768 ^ (-1/2)`. -/
def scale : ℝ := (Real.sqrt 768)⁻¹

theorem ofBits_depth : Ideal.ofBits .f32 0x44400000#32 = ((768 : ℝ) : EReal) := by
  simp [Ideal.ofBits, Ideal.ieee, -EReal.coe_mul]
  norm_num

/-- Dividing by the root of the depth is multiplying by the factor. -/
theorem div_depth (a : EReal) : Ideal.div a (Ideal.sqrt ((768 : ℝ) : EReal)) = a * ((scale : ℝ) : EReal) := by
  rw [Ideal.sqrt_coe, if_neg (by norm_num), Ideal.div_coe (Real.sqrt_ne_zero'.mpr (by norm_num)), one_div, scale]

theorem ofBits_thirtyTwo : Ideal.ofBits .f32 0x42000000#32 = ((32 : ℝ) : EReal) := by
  simp [Ideal.ofBits, Ideal.ieee, -EReal.coe_mul]
  norm_num

theorem ofBits_negInf : Ideal.ofBits .f32 0xFF800000#32 = ⊥ := by
  simp [Ideal.ofBits, Ideal.ieee]

end Cert.Routing
-- ==== Proof.Ranks.lean ====
/-
  The kernel's ranks of the regions and its mask of the kept locations.
-/
module

public import proofs.«01_k».proof.Proof.Masks
public import proofs.«01_k».proof.Proof.Attention
public import proofs.«01_k».proof.Proof.Consts
public import Idealize.ShloMosaic.Lib.Pointwise

@[expose] public section

set_option maxRecDepth 16384

noncomputable section

namespace Cert.KernelIdeal.Body

open Cert.KernelIdeal Cert.KernelIdeal.Gen Cert.Routing Idealize.ShloMosaic

/-- The ranks of the regions: each counts the regions with a larger score or an equal score and a smaller number. -/
theorem rank_apply (v9 : FVec Ideal S1x768 .f32) (v21 : FVec Ideal S768x1024 .bf16) (v23 : IVec S1024x64 32) (v84 : IVec S1024x64 1) (v110 v114 : IVec S1024x64 32) (v123 : IVec S1024x64 1) (v125 : IVec S1024x64 32)
    (h23 : ∀ l r, v23 (ix2 l r) = BitVec.ofNat 32 r.val)
    (h84 : ∀ l r, v84 (ix2 l r) = BitVec.ofBool (decide (l.val % 4 = 0 ∧ l.val / 32 % 4 = 0)))
    (h110 : ∀ l r, v110 (ix2 l r) = BitVec.ofNat 32 (l.val / 128 * 8))
    (h126 : ∀ l r, Scalar.select (v123 (ix2 l r)) (v125 (ix2 l r)) (v114 (ix2 l r)) = BitVec.ofNat 32 (l.val % 32))
    (q : Fin 768 → ℝ) (K : Fin 768 → Fin 1024 → ℝ) (hq : ∀ c, v9 (ix2 0 c) = (q c : EReal))
    (hK : ∀ c r, v21 (ix2 c (site r 0)) = (peak K c r : EReal)) (j : Fin 64) :
    k0_pay19 v9 v21 v23 v84 v110 v114 v123 v125 (ix2 0 j) = ((rank (affinity q K) j : ℝ) : EReal) := by
  pointwise [k0_pay19]
  have hquarter : ∀ l : Fin 1024, _ := fun l => quarter (l.val % 32) (by omega)
  simp only [h23, h84, h110, h126, hquarter, same_region, and_bits, number_of_bit, first_site, less, mul_ite, mul_one, mul_zero, Finset.sum_ite_eq', Finset.sum_ite_eq, Finset.mem_univ, if_true, hq, hK, ← EReal.coe_mul, ← coe_sum, or_bits]
  simp only [EReal.coe_lt_coe_iff, EReal.coe_eq_coe_iff]
  rw [Finset.sum_boole, EReal.coe_natCast]
  unfold rank
  congr 2
  ext x
  simp only [Finset.mem_filter, Finset.mem_univ, true_and]
  exact Iff.rfl

/-- The kept locations: those whose region has rank below 32. -/
theorem kept_apply (v174 : FVec Ideal S1x64 .f32) (v176 v202 v218 v220 : IVec S64x1024 32)
    (h176 : ∀ r l, v176 (ix2 r l) = BitVec.ofNat 32 r.val)
    (h202 : ∀ r l, v202 (ix2 r l) = BitVec.ofNat 32 (l.val / 128 * 8))
    (h218 : ∀ r l, v218 (ix2 r l) = BitVec.ofNat 32 (l.val % 32))
    (h220 : ∀ r l, v220 (ix2 r l) = IntOp.divsi .vector (BitVec.ofNat 32 (l.val % 32)) 4#32)
    (q : Fin 768 → ℝ) (K : Fin 768 → Fin 1024 → ℝ)
    (h174 : ∀ j, v174 (ix2 0 j) = ((rank (affinity q K) j : ℝ) : EReal)) (l : Fin 1024) :
    k0_pay23 v174 v176 v202 v218 4#32 v220 (ix2 0 l) = BitVec.ofBool (decide (Kept q K l)) := by
  pointwise [k0_pay23]
  have hquarter : ∀ l : Fin 1024, _ := fun l => quarter (l.val % 32) (by omega)
  simp only [h176, h202, h218, h220, hquarter, same_region, number_of_bit, h174, mul_ite, mul_one, mul_zero,
    Finset.sum_ite_eq, Finset.mem_univ, if_true, ofBits_thirtyTwo, EReal.coe_lt_coe_iff]
  congr 1
  rw [decide_eq_decide]
  unfold Kept
  exact_mod_cast Iff.rfl

end Cert.KernelIdeal.Body
-- ==== Proof.Attend.lean ====
/-
  The kernel's softmax over the kept locations, and the projection of the averaged input.
-/
module

public import proofs.«01_k».proof.Proof.Gen.KernelIdeal.Frame
public import proofs.«01_k».proof.Proof.Attention
public import proofs.«01_k».proof.Proof.Consts
public import Idealize.ShloMosaic.Lib.Pointwise

@[expose] public section

set_option maxRecDepth 16384

noncomputable section

namespace Cert.KernelIdeal.Body

open Cert.KernelIdeal Cert.KernelIdeal.Gen Cert.Routing Idealize.ShloMosaic

/-- A choice by the bit of a condition. -/
theorem select_bit {α : Type} (p : Prop) [Decidable p] (a b : α) :
    Scalar.select (BitVec.ofBool (decide p)) a b = if p then a else b := by
  by_cases h : p <;> simp [Scalar.select, h]

/-- The scaled score, summed over the channels of one head. -/
theorem score_coe (q : Fin 768 → ℝ) (K : Fin 768 → Fin 1024 → ℝ) (h : Fin 12) (l : Fin 1024) :
    (∑ c : Fin 768, if c.val / 64 = h.val then ((q c : ℝ) : EReal) * ((K c l : ℝ) : EReal) else 0) * ((scale : ℝ) : EReal)
      = ((score scale q K h l : ℝ) : EReal) := by
  unfold score
  rw [EReal.coe_mul, coe_sum]
  congr 1
  refine Finset.sum_congr rfl fun c _ => ?_
  split
  · rw [EReal.coe_mul]
  · rw [EReal.coe_zero]

/-- The attended input, projected to values. -/
theorem attend_apply (v1 : FVec Ideal S768x1024 .bf16) (v9 : FVec Ideal S1x768 .f32) (v13 : FVec Ideal S768x1024 .bf16) (v251 : IVec S1x1024 1) (v252 v253 : IVec S12x768 32) (c64_i32 : BitVec 32) (v255 v262 : IVec S12x768 32) (v267 : BitVec 32) (v303 : Vec Ideal S768x768 .bf16)
    (hbit : ∀ (h : Fin 12) (c : Fin 768), IntOp.cmpi .eq (Scalar.select
        (IntOp.andi (IntOp.cmpi .ne (v262 (ix2 h c)) v267)
          (IntOp.cmpi .ne (IntOp.remsi ArithUnit.vector (v253 (ix2 h c)) c64_i32) 0#32))
        (IntOp.subi (v255 (ix2 h c)) 1#32) (v255 (ix2 h c))) (v252 (ix2 h c))
      = BitVec.ofBool (decide (c.val / 64 = h.val)))
    (q : Fin 768 → ℝ) (K Y : Fin 768 → Fin 1024 → ℝ) (W : Fin 768 → Fin 768 → ℝ)
    (h251 : ∀ l, v251 (ix2 0 l) = BitVec.ofBool (decide (Kept q K l)))
    (h9 : ∀ c, v9 (ix2 0 c) = (q c : EReal)) (h13 : ∀ c l, v13 (ix2 c l) = (K c l : EReal))
    (h1 : ∀ i l, v1 (ix2 i l) = (Y i l : EReal)) (h303 : ∀ c i, v303 (ix2 c i) = (W c i : EReal)) (c : Fin 768) :
    k0_pay26 v1 v9 v13 v251 v252 v253 c64_i32 v255 v262 v267 v303 (ix2 0 c)
      = ((∑ i : Fin 768, (∑ l : Fin 1024, (if Kept q K l then weight (kept q K) (score scale q K (head c)) l else 0) * Y i l)
        * W c i : ℝ) : EReal) := by
  pointwise [k0_pay26]
  have hmask : Named.named (F := Ideal) (φ := .f32) κ "mask" 4048155338#32 = ⊥ :=
    IdealRules.named_const.ideal_named_scalar _ _ _ _ rfl
  have hscale : Named.named (F := Ideal) (φ := .f32) κ "scale" 1024707898#32 = ((scale : ℝ) : EReal) :=
    IdealRules.named_const.ideal_named_scalar _ _ _ _ rfl
  simp only [hbit, h251, h9, h13, h1, h303, select_bit, hscale, ofBits_negInf, hmask, score_coe]
  rw [Finset.sum_eq_single (head c)]
  · rw [if_pos (show c.val / 64 = (head c).val from rfl)]
    obtain ⟨m, hm⟩ := exists_real_max Finset.univ
      (fun l => if Kept q K l then ((score scale q K (head c) l : ℝ) : EReal) else ⊥)
      (fun l _ => by split <;> simp)
      (by obtain ⟨l, hl⟩ := exists_kept q K; exact ⟨l, Finset.mem_univ _, by rw [if_pos hl]; simp⟩)
    simp only [hm]
    simp only [softmax_eq (Kept q K) (exists_kept q K) (score scale q K (head c)) _ (fun _ => rfl) m]
    simp only [← EReal.coe_mul, ← coe_sum]
    rfl
  · intro h _ hne
    rw [if_neg]
    intro e
    exact hne (Fin.ext e.symm)
  · intro h
    exact absurd (Finset.mem_univ _) h

end Cert.KernelIdeal.Body
-- ==== Proof.Body.lean ====
/-
  The kernel's block function: what one grid step writes, as a function of the real values of its input blocks.
-/
module

public import proofs.«01_k».proof.Proof.Masks
public import proofs.«01_k».proof.Proof.Largest
public import proofs.«01_k».proof.Proof.Ranks
public import proofs.«01_k».proof.Proof.Attend
public import Idealize.ShloMosaic.Lib.Pipeline.ValueKit.Tiles

@[expose] public section

set_option maxRecDepth 16384

noncomputable section

namespace Cert.KernelIdeal.Body

open Cert.KernelIdeal Cert.KernelIdeal.Gen Cert.Routing Idealize.ShloMosaic

/-! ## The small payloads -/

theorem input_apply (xs : Vec Ideal S1x768x1024 .bf16) (i : Fin 768) (l : Fin 1024) :
    k0_pay2 xs (ix2 i l) = xs (ix3 0 i l) := by
  pointwise [k0_pay2]

theorem query_apply (x0 : Vec Ideal S1x1x768 .bf16) (w : Vec Ideal S768x768 .bf16) (b : Vec Ideal S1x768 .f32)
    (c : Fin 768) :
    k0_pay3 x0 w b (ix2 0 c) = (∑ i : Fin 768, x0 (ix3 0 0 i) * w (ix2 c i)) + b (ix2 0 c) := by
  pointwise [k0_pay3]

theorem keys_apply (xs : Vec Ideal S1x768x1024 .bf16) (w : Vec Ideal S768x768 .bf16) (c : Fin 768) (l : Fin 1024) :
    k0_pay4 xs w (ix2 c l) = ∑ i : Fin 768, w (ix2 c i) * xs (ix3 0 i l) := by
  pointwise [k0_pay4, k0_pay2]

theorem output_apply (a : FVec Ideal S1x768 .f32) (b : Vec Ideal S1x768 .f32) (w : Vec Ideal S1536x768 .bf16)
    (bo : Vec Ideal S1x1536 .f32) (o : Fin 1536) :
    k0_pay1 a (k0_pay27 b) w bo (ix3 0 0 o)
      = (∑ c : Fin 768, (a (ix2 0 c) + b (ix2 0 c)) * w (ix2 o c)) + bo (ix2 0 o) := by
  pointwise [k0_pay1, k0_pay27]

/-- The upper half of the joint key and value weights. -/
theorem upper_apply (w : Vec Ideal S1536x768 .bf16) (c i : Fin 768) :
    View.ld w r0_4 (ix2 c i) = w (ix2 ⟨c.val, by omega⟩ i) :=
  View.ld_unit_apply_of _ _ _ _ _ _ (by intro a; match a with | 0 => exact (Nat.zero_add _).symm | 1 => exact (Nat.zero_add _).symm)

/-- The lower half of the joint key and value weights. -/
theorem lower_apply (w : Vec Ideal S1536x768 .bf16) (c i : Fin 768) :
    View.ld w r0_5 (ix2 c i) = w (ix2 ⟨768 + c.val, by omega⟩ i) :=
  View.ld_unit_apply_of _ _ _ _ _ _ (by intro a; match a with | 0 => rfl | 1 => exact (Nat.zero_add _).symm)

theorem number_apply (l : Fin 1024) (r : Fin 64) :
    iota .tc S1024x64 32 [1] iota_S1024x64_d1_w32 (ix2 l r) = BitVec.ofNat 32 r.val := by
  pointwise

theorem number_apply' (r : Fin 64) (l : Fin 1024) :
    iota .tc S64x1024 32 [0] iota_S64x1024_d0_w32 (ix2 r l) = BitVec.ofNat 32 r.val := by
  pointwise

/-! ## The block function -/

theorem zero2 : (![0, 0] : Fin 2 → Nat) = fun _ => 0 := by decide
theorem zero3 : (![0, 0, 0] : Fin 3 → Nat) = fun _ => 0 := by decide

theorem out_apply (x0 : Vec Ideal S1x768x1024 .bf16) (x1 : Vec Ideal S1x1x768 .bf16) (x2 : Vec Ideal S768x768 .bf16)
    (x3 : Vec Ideal S1x768 .f32) (x4 : Vec Ideal S1536x768 .bf16) (x5 : Vec Ideal S1x768 .f32)
    (x6 : Vec Ideal S1536x768 .bf16) (x7 : Vec Ideal S1x1536 .f32)
    (Y : Fin 768 → Fin 1024 → ℝ) (u : Fin 768 → ℝ) (Wq : Fin 768 → Fin 768 → ℝ) (bq : Fin 768 → ℝ)
    (W : Fin 1536 → Fin 768 → ℝ) (bv : Fin 768 → ℝ)
    (h0 : ∀ i l, x0 (ix3 0 i l) = (Y i l : EReal)) (h1 : ∀ i, x1 (ix3 0 0 i) = (u i : EReal))
    (h2 : ∀ c i, x2 (ix2 c i) = (Wq c i : EReal)) (h3 : ∀ c, x3 (ix2 0 c) = (bq c : EReal))
    (h4 : ∀ c i, x4 (ix2 c i) = (W c i : EReal)) (h5 : ∀ c, x5 (ix2 0 c) = (bv c : EReal)) (o : Fin 1536) :
    out0_8 x0 x1 x2 x3 x4 x5 x6 x7 (ix3 0 0 o)
      = (∑ c : Fin 768, ((attended scale (query u Wq bq) (project (fun c => W ⟨c.val, by omega⟩) Y)
          (fun c l => project (fun c => W ⟨768 + c.val, by omega⟩) Y c l + bv c) c : ℝ) : EReal) * x6 (ix2 o c))
        + x7 (ix2 0 o) := by
  unfold_out out0_8
  rw [View.canon_unit_zero zero3, View.ld_unit_zero zero3, View.ld_unit_zero zero3, View.ld_unit_zero zero2,
    View.ld_unit_zero zero2, View.ld_unit_zero zero2, View.ld_unit_zero zero2, View.ld_unit_zero zero2]
  have hq : ∀ c, k0_pay3 x1 x2 x3 (ix2 0 c) = ((query u Wq bq c : ℝ) : EReal) := fun c => by
    rw [query_apply]
    simp only [h1, h2, h3, ← EReal.coe_mul, ← coe_sum, ← EReal.coe_add]
    rfl
  have hK : ∀ c l, k0_pay4 x0 (View.ld x4 r0_4) (ix2 c l)
      = ((project (fun c => W ⟨c.val, by omega⟩) Y c l : ℝ) : EReal) := fun c l => by
    have e : ∀ i, View.ld x4 r0_4 (ix2 c i) * x0 (ix3 0 i l) = ((W ⟨c.val, by omega⟩ i * Y i l : ℝ) : EReal) := fun i =>
      (congrArg₂ (· * ·) ((upper_apply x4 c i).trans (h4 _ _)) (h0 i l)).trans (EReal.coe_mul _ _).symm
    exact ((keys_apply x0 _ c l).trans (Finset.sum_congr rfl fun i _ => e i)).trans (coe_sum _ _).symm
  have hrank := rank_apply (k0_pay3 x1 x2 x3) (k0_pay5 x0 (View.ld x4 r0_4))
    (iota .tc S1024x64 32 [1] iota_S1024x64_d1_w32) _ (k0_pay15 (iota .tc S1024x64 32 [0] iota_S1024x64_d0_w32))
    (k0_pay16 (iota .tc S1024x64 32 [0] iota_S1024x64_d0_w32)) (k0_pay17 (iota .tc S1024x64 32 [0] iota_S1024x64_d0_w32))
    (k0_pay18 (iota .tc S1024x64 32 [0] iota_S1024x64_d0_w32))
    number_apply first_apply rowStart_apply column_apply _ _ hq
    (fun c r => largest_apply x0 (View.ld x4 r0_4) _ hK c r)
  have hkept := kept_apply _ (iota .tc S64x1024 32 [0] iota_S64x1024_d0_w32)
    (k0_pay20 (iota .tc S64x1024 32 [1] iota_S64x1024_d1_w32)) (k0_pay21 (iota .tc S64x1024 32 [1] iota_S64x1024_d1_w32))
    (k0_pay22 (iota .tc S64x1024 32 [1] iota_S64x1024_d1_w32)) number_apply' rowStart_apply' column_apply' columnQuarter_apply' _ _ hrank
  have hatt := attend_apply (k0_pay2 x0) _ _ _ (iota .tc S12x768 32 [0] iota_S12x768_d0_w32)
    (iota .tc S12x768 32 [1] iota_S12x768_d1_w32) 64#32 k0_pay24 k0_pay25
    (Scalar.subi (Scalar.extui (Scalar.cmpi .sgt 64#32 0#32)) (Scalar.extui (Scalar.cmpi .slt 64#32 0#32))) (View.ld x4 r0_5) head_apply _ _ Y
    (fun c i => W ⟨768 + c.val, by omega⟩ i) hkept hq hK (fun i l => (input_apply x0 i l).trans (h0 i l))
    (fun c i => (lower_apply x4 c i).trans (h4 _ _))
  rw [output_apply]
  simp only [hatt, h5, ← EReal.coe_add]
  have e := projected_eq scale (query u Wq bq) (project (fun c => W ⟨c.val, by omega⟩) Y)
    (fun c i => W ⟨768 + c.val, by omega⟩ i) Y bv
  simp only [e]

end Cert.KernelIdeal.Body
-- ==== Proof.Context.lean ====
/-
  The function both programs compute, over real arguments: the context vector of each image, from which the last
  projection makes the result.
-/
module

public import proofs.«01_k».proof.Proof.Attention
public import proofs.«01_k».proof.Proof.Consts

@[expose] public section

noncomputable section

namespace Cert.Routing

/-- The local tokens' numbers are laid out again as 768 channels of 1024 locations: number `1024 * i + l` belongs to
    token `1 + (1024 * i + l) / 768` of the sequence, -/
def row (i : Fin 768) (l : Fin 1024) : Fin 1025 := ⟨1 + (i.val * 1024 + l.val) / 768, by omega⟩

/-- and stands at this place in it. -/
def col (i : Fin 768) (l : Fin 1024) : Fin 768 := ⟨(i.val * 1024 + l.val) % 768, by omega⟩

/-- Input channel `i` at location `l` of image `b`. -/
def pixels (x : Fin 16 → Fin 1025 → Fin 768 → ℝ) (b : Fin 16) (i : Fin 768) (l : Fin 1024) : ℝ := x b (row i l) (col i l)

/-- The attended values of image `b`: the class token's query against the image's keys and values. The keys carry no
    bias, which changes nothing (`attended_add`). -/
def context (x : Fin 16 → Fin 1025 → Fin 768 → ℝ) (Wq : Fin 768 → Fin 768 → ℝ) (bq : Fin 768 → ℝ)
    (W : Fin 1536 → Fin 768 → ℝ) (bkv : Fin 1536 → ℝ) (b : Fin 16) (c : Fin 768) : ℝ :=
  attended scale (query (x b 0) Wq bq) (project (fun c => W ⟨c.val, by omega⟩) (pixels x b))
    (fun c l => project (fun c => W ⟨768 + c.val, by omega⟩) (pixels x b) c l + bkv ⟨768 + c.val, by omega⟩) c

end Cert.Routing

end
-- ==== Proof.KernelArray.lean ====
/-
  The kernel's result array: the blocks its grid steps read, read back to the arguments, and the blocks they write put
  together.
-/
module

public import proofs.«01_k».proof.Proof.Body
public import proofs.«01_k».proof.Proof.Context
public import proofs.«01_k».proof.Proof.Gen.KernelIdeal.Value

@[expose] public section

set_option maxRecDepth 16384

noncomputable section

namespace Cert.KernelIdeal.Body

open Cert.KernelIdeal Cert.KernelIdeal.Gen Cert.Routing Idealize.ShloMosaic Idealize.ShloMosaic.TcCoe

variable (m : (ℓ : Loc nD τ sig) → Buf (Elt Ideal) ℓ) (d : Dev nD)

/-! ## The arrays the windows stage, in terms of the arguments -/

theorem V_pixels (b : Fin 16) (i : Fin 768) (l : Fin 1024) :
    (V m d main_v2 : Vec Ideal S16x768x1024 .bf16) (ix3 b i l)
      = (m ((d : Thread nD τ).loc main_arg0) : Vec Ideal S16x1025x768 .f32) (ix3 b (row i l) (col i l)) := by
  have e : (V m d main_v2 : Vec Ideal S16x768x1024 .bf16) = truncf (F := Ideal) .bf16 (shapeCast S16x768x1024
      (extractStridedSlice S16x1024x768 ![0, 1, 0] (m ((d : Thread nD τ).loc main_arg0))
        slices_S16x1025x768_S16x1024x768_0_1_0) shapeCasts_S16x1024x768_S16x768x1024) bitsLt_bf16_f32 := by
    unfold V hostOps0
    after_results
    rfl
  rw [e]
  generalize (m ((d : Thread nD τ).loc main_arg0)) = x
  pointwise
  refine congrArg x (congrArg₂ (ix3 b) (Fin.ext ?_) (Fin.ext ?_))
  · show _ = 1 + (i.val * 1024 + l.val) / 768
    dsimp only
    omega
  · show _ = (i.val * 1024 + l.val) % 768
    dsimp only
    omega

theorem V_token (b : Fin 16) (i : Fin 768) :
    (V m d main_v6 : Vec Ideal S16x1x768 .bf16) (ix3 b 0 i)
      = (m ((d : Thread nD τ).loc main_arg0) : Vec Ideal S16x1025x768 .f32) (ix3 b 0 i) := by
  have e : (V m d main_v6 : Vec Ideal S16x1x768 .bf16) = truncf (F := Ideal) .bf16 (shapeCast S16x1x768
      (shapeCast S16x768 (extractStridedSlice S16x1x768 ![0, 0, 0] (m ((d : Thread nD τ).loc main_arg0))
        slices_S16x1025x768_S16x1x768_0_0_0) shapeCasts_S16x1x768_S16x768) shapeCasts_S16x768_S16x1x768)
      bitsLt_bf16_f32 := by
    unfold V hostOps0
    after_results
    rfl
  rw [e]
  generalize (m ((d : Thread nD τ).loc main_arg0)) = x
  pointwise

theorem V_wq (c i : Fin 768) :
    (V m d main_v11 : Vec Ideal S768x768 .bf16) (ix2 c i)
      = (m ((d : Thread nD τ).loc main_arg1) : Vec Ideal S768x768 .f32) (ix2 c i) := by
  have e : (V m d main_v11 : Vec Ideal S768x768 .bf16)
      = truncf (F := Ideal) .bf16 (m ((d : Thread nD τ).loc main_arg1)) bitsLt_bf16_f32 := by
    unfold V hostOps0
    after_results
  rw [e]
  rfl

theorem V_bq (c : Fin 768) :
    (V m d main_v7 : Vec Ideal S1x768 .f32) (ix2 0 c)
      = (m ((d : Thread nD τ).loc main_arg2) : Vec Ideal S768 .f32) (ix1 c) := by
  have e : (V m d main_v7 : Vec Ideal S1x768 .f32)
      = shapeCast S1x768 (m ((d : Thread nD τ).loc main_arg2)) shapeCasts_S768_S1x768 := by
    unfold V hostOps0
    after_results
    rfl
  rw [e]
  generalize (m ((d : Thread nD τ).loc main_arg2)) = x
  pointwise

theorem V_wkv (c : Fin 1536) (i : Fin 768) :
    (V m d main_v12 : Vec Ideal S1536x768 .bf16) (ix2 c i)
      = (m ((d : Thread nD τ).loc main_arg3) : Vec Ideal S1536x768 .f32) (ix2 c i) := by
  have e : (V m d main_v12 : Vec Ideal S1536x768 .bf16)
      = truncf (F := Ideal) .bf16 (m ((d : Thread nD τ).loc main_arg3)) bitsLt_bf16_f32 := by
    unfold V hostOps0
    after_results
  rw [e]
  rfl

theorem V_bv (c : Fin 768) :
    (V m d main_v9 : Vec Ideal S1x768 .f32) (ix2 0 c)
      = (m ((d : Thread nD τ).loc main_arg4) : Vec Ideal S1536 .f32) (ix1 ⟨768 + c.val, by omega⟩) := by
  have e : (V m d main_v9 : Vec Ideal S1x768 .f32)
      = shapeCast S1x768 (extractStridedSlice S768 ![768] (m ((d : Thread nD τ).loc main_arg4))
          slices_S1536_S768_768) shapeCasts_S768_S1x768 := by
    unfold V hostOps0
    after_results
    rfl
  rw [e]
  generalize (m ((d : Thread nD τ).loc main_arg4)) = x
  pointwise

theorem V_wo (o : Fin 1536) (c : Fin 768) :
    (V m d main_v13 : Vec Ideal S1536x768 .bf16) (ix2 o c)
      = (m ((d : Thread nD τ).loc main_arg5) : Vec Ideal S1536x768 .f32) (ix2 o c) := by
  have e : (V m d main_v13 : Vec Ideal S1536x768 .bf16)
      = truncf (F := Ideal) .bf16 (m ((d : Thread nD τ).loc main_arg5)) bitsLt_bf16_f32 := by
    unfold V hostOps0
    after_results
  rw [e]
  rfl

theorem V_bo (o : Fin 1536) :
    (V m d main_v10 : Vec Ideal S1x1536 .f32) (ix2 0 o)
      = (m ((d : Thread nD τ).loc main_arg6) : Vec Ideal S1536 .f32) (ix1 o) := by
  have e : (V m d main_v10 : Vec Ideal S1x1536 .f32)
      = shapeCast S1x1536 (m ((d : Thread nD τ).loc main_arg6)) shapeCasts_S1536_S1x1536 := by
    unfold V hostOps0
    after_results
    rfl
  rw [e]
  generalize (m ((d : Thread nD τ).loc main_arg6)) = x
  pointwise

/-! ## The blocks -/

theorem N_eq : cfg0.N = 16 := N_0

/-- The image grid step `t` works on. -/
def image (t : Fin cfg0.N) : Fin 16 := ⟨t.val, N_eq ▸ t.isLt⟩

theorem index_image : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_8.index t 0 = t.val ∧ win0_8.index t 1 = 0 ∧ win0_8.index t 2 = 0) :=
  (by decide +kernel : ∀ t : Fin grid0.N, (win0_0.index t 0 = t.val ∧ win0_0.index t 1 = 0 ∧ win0_0.index t 2 = 0)
    ∧ (win0_1.index t 0 = t.val ∧ win0_1.index t 1 = 0 ∧ win0_1.index t 2 = 0)
    ∧ (win0_8.index t 0 = t.val ∧ win0_8.index t 1 = 0 ∧ win0_8.index t 2 = 0))

theorem index_whole : ∀ t : Fin cfg0.N, (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) :=
  (by decide +kernel : ∀ t : Fin grid0.N, (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0))

theorem block_pixels (t : Fin cfg0.N) (i : Fin 768) (l : Fin 1024) :
    (iblk m d 0 t : Vec Ideal S1x768x1024 .bf16) (ix3 0 i l) = V m d main_v2 (ix3 (image t) i l) := by
  have e := (index_image t).1
  unfold iblk
  rw [View.read_apply]
  show V m d main_v2 _ = V m d main_v2 _
  refine congrArg (V m d main_v2) (funext fun a => Fin.ext ?_)
  match a with
  | ⟨0, _⟩ => show win0_0.index t 0 * 1 + 1 * 0 = t.val; rw [e.1]; omega
  | ⟨1, _⟩ => show win0_0.index t 1 * 768 + 1 * i.val = i.val; rw [e.2.1]; omega
  | ⟨2, _⟩ => show win0_0.index t 2 * 1024 + 1 * l.val = l.val; rw [e.2.2]; omega

theorem block_token (t : Fin cfg0.N) (i : Fin 768) :
    (iblk m d 1 t : Vec Ideal S1x1x768 .bf16) (ix3 0 0 i) = V m d main_v6 (ix3 (image t) 0 i) := by
  have e := (index_image t).2.1
  unfold iblk
  rw [View.read_apply]
  show V m d main_v6 _ = V m d main_v6 _
  refine congrArg (V m d main_v6) (funext fun a => Fin.ext ?_)
  match a with
  | ⟨0, _⟩ => show win0_1.index t 0 * 1 + 1 * 0 = t.val; rw [e.1]; omega
  | ⟨1, _⟩ => show win0_1.index t 1 * 1 + 1 * 0 = 0; rw [e.2.1]
  | ⟨2, _⟩ => show win0_1.index t 2 * 768 + 1 * i.val = i.val; rw [e.2.2]; omega

theorem block_wq (t : Fin cfg0.N) (c i : Fin 768) :
    (iblk m d 2 t : Vec Ideal S768x768 .bf16) (ix2 c i) = V m d main_v11 (ix2 c i) := by
  have e := (index_whole t).1
  unfold iblk
  rw [View.read_apply]
  show V m d main_v11 _ = V m d main_v11 _
  refine congrArg (V m d main_v11) (funext fun a => Fin.ext ?_)
  match a with
  | ⟨0, _⟩ => show win0_2.index t 0 * 768 + 1 * c.val = c.val; rw [e.1]; omega
  | ⟨1, _⟩ => show win0_2.index t 1 * 768 + 1 * i.val = i.val; rw [e.2]; omega

theorem block_bq (t : Fin cfg0.N) (c : Fin 768) :
    (iblk m d 3 t : Vec Ideal S1x768 .f32) (ix2 0 c) = V m d main_v7 (ix2 0 c) := by
  have e := (index_whole t).2.1
  unfold iblk
  rw [View.read_apply]
  show V m d main_v7 _ = V m d main_v7 _
  refine congrArg (V m d main_v7) (funext fun a => Fin.ext ?_)
  match a with
  | ⟨0, _⟩ => show win0_3.index t 0 * 1 + 1 * 0 = 0; rw [e.1]
  | ⟨1, _⟩ => show win0_3.index t 1 * 768 + 1 * c.val = c.val; rw [e.2]; omega

theorem block_wkv (t : Fin cfg0.N) (c : Fin 1536) (i : Fin 768) :
    (iblk m d 4 t : Vec Ideal S1536x768 .bf16) (ix2 c i) = V m d main_v12 (ix2 c i) := by
  have e := (index_whole t).2.2.1
  unfold iblk
  rw [View.read_apply]
  show V m d main_v12 _ = V m d main_v12 _
  refine congrArg (V m d main_v12) (funext fun a => Fin.ext ?_)
  match a with
  | ⟨0, _⟩ => show win0_4.index t 0 * 1536 + 1 * c.val = c.val; rw [e.1]; omega
  | ⟨1, _⟩ => show win0_4.index t 1 * 768 + 1 * i.val = i.val; rw [e.2]; omega

theorem block_bv (t : Fin cfg0.N) (c : Fin 768) :
    (iblk m d 5 t : Vec Ideal S1x768 .f32) (ix2 0 c) = V m d main_v9 (ix2 0 c) := by
  have e := (index_whole t).2.2.2.1
  unfold iblk
  rw [View.read_apply]
  show V m d main_v9 _ = V m d main_v9 _
  refine congrArg (V m d main_v9) (funext fun a => Fin.ext ?_)
  match a with
  | ⟨0, _⟩ => show win0_5.index t 0 * 1 + 1 * 0 = 0; rw [e.1]
  | ⟨1, _⟩ => show win0_5.index t 1 * 768 + 1 * c.val = c.val; rw [e.2]; omega

theorem block_wo (t : Fin cfg0.N) (o : Fin 1536) (c : Fin 768) :
    (iblk m d 6 t : Vec Ideal S1536x768 .bf16) (ix2 o c) = V m d main_v13 (ix2 o c) := by
  have e := (index_whole t).2.2.2.2.1
  unfold iblk
  rw [View.read_apply]
  show V m d main_v13 _ = V m d main_v13 _
  refine congrArg (V m d main_v13) (funext fun a => Fin.ext ?_)
  match a with
  | ⟨0, _⟩ => show win0_6.index t 0 * 1536 + 1 * o.val = o.val; rw [e.1]; omega
  | ⟨1, _⟩ => show win0_6.index t 1 * 768 + 1 * c.val = c.val; rw [e.2]; omega

theorem block_bo (t : Fin cfg0.N) (o : Fin 1536) :
    (iblk m d 7 t : Vec Ideal S1x1536 .f32) (ix2 0 o) = V m d main_v10 (ix2 0 o) := by
  have e := (index_whole t).2.2.2.2.2
  unfold iblk
  rw [View.read_apply]
  show V m d main_v10 _ = V m d main_v10 _
  refine congrArg (V m d main_v10) (funext fun a => Fin.ext ?_)
  match a with
  | ⟨0, _⟩ => show win0_7.index t 0 * 1 + 1 * 0 = 0; rw [e.1]
  | ⟨1, _⟩ => show win0_7.index t 1 * 1536 + 1 * o.val = o.val; rw [e.2]; omega

/-! ## The result array -/

/-- Every place of the result array lies in the block of its image's grid step. -/
theorem cover (i : S16x1x1536.Idx) :
    ∃ t : Fin cfg0.N, (cfg0.win 8).flush t = true ∧ i ∈ ((cfg0.win 8).blk t).view.set := by
  have b0 : (i 0).val < 16 := (i 0).isLt
  have b1 : (i 1).val < 1 := (i 1).isLt
  have b2 : (i 2).val < 1536 := (i 2).isLt
  have ht : (i 0).val < cfg0.N := N_eq ▸ b0
  have e := (index_image ⟨(i 0).val, ht⟩).2.2
  refine ⟨⟨(i 0).val, ht⟩, flush0_8 _, ?_⟩
  show i ∈ ((View.whole main_v14).slice (win0_8.rect ⟨(i 0).val, ht⟩)).set
  rw [View.set_slice_whole, Rect.mem_set_unit]
  intro a
  match a with
  | ⟨0, _⟩ =>
    show win0_8.index ⟨(i 0).val, ht⟩ 0 * 1 ≤ (i 0).val ∧ (i 0).val < win0_8.index ⟨(i 0).val, ht⟩ 0 * 1 + 1
    rw [e.1]; dsimp only; omega
  | ⟨1, _⟩ =>
    show win0_8.index ⟨(i 0).val, ht⟩ 1 * 1 ≤ (i 1).val ∧ (i 1).val < win0_8.index ⟨(i 0).val, ht⟩ 1 * 1 + 1
    rw [e.2.1]; omega
  | ⟨2, _⟩ =>
    show win0_8.index ⟨(i 0).val, ht⟩ 2 * 1536 ≤ (i 2).val ∧ (i 2).val < win0_8.index ⟨(i 0).val, ht⟩ 2 * 1536 + 1536
    rw [e.2.2]; omega

/-- What the kernel's result array holds, when the arguments that decide the routing and the weights are real. -/
theorem array_apply (x : Fin 16 → Fin 1025 → Fin 768 → ℝ) (Wq : Fin 768 → Fin 768 → ℝ) (bq : Fin 768 → ℝ)
    (W : Fin 1536 → Fin 768 → ℝ) (bkv : Fin 1536 → ℝ)
    (h0 : ∀ b n i, (m ((d : Thread nD τ).loc main_arg0) : Vec Ideal S16x1025x768 .f32) (ix3 b n i) = (x b n i : EReal))
    (h1 : ∀ c i, (m ((d : Thread nD τ).loc main_arg1) : Vec Ideal S768x768 .f32) (ix2 c i) = (Wq c i : EReal))
    (h2 : ∀ c, (m ((d : Thread nD τ).loc main_arg2) : Vec Ideal S768 .f32) (ix1 c) = (bq c : EReal))
    (h3 : ∀ c i, (m ((d : Thread nD τ).loc main_arg3) : Vec Ideal S1536x768 .f32) (ix2 c i) = (W c i : EReal))
    (h4 : ∀ c, (m ((d : Thread nD τ).loc main_arg4) : Vec Ideal S1536 .f32) (ix1 c) = (bkv c : EReal)) :
    (dats m 0 d).arrAt 8 cfg0.N = fun j : S16x1x1536.Idx =>
      (∑ c : Fin 768, (context x Wq bq W bkv (j 0) c : EReal)
          * (m ((d : Thread nD τ).loc main_arg5) : Vec Ideal S1536x768 .f32) (ix2 (j 2) c))
        + (m ((d : Thread nD τ).loc main_arg6) : Vec Ideal S1536 .f32) (ix1 (j 2)) := by
  refine (dats m 0 d).arrAt_eq_of_cover 8 _ (fun t _ => ?_) cover
  rw [Value.flushed8]
  have e := (index_image t).2.2
  funext j
  obtain ⟨o, rfl⟩ : ∃ o : Fin 1536, j = ix3 0 0 o := by
    refine ⟨j 2, funext fun a => ?_⟩
    match a with
    | ⟨0, _⟩ => exact Fin.ext (Nat.lt_one_iff.mp (j 0).isLt)
    | ⟨1, _⟩ => exact Fin.ext (Nat.lt_one_iff.mp (j 1).isLt)
    | ⟨2, _⟩ => rfl
  refine (out_apply (iblk m d 0 t) (iblk m d 1 t) (iblk m d 2 t) (iblk m d 3 t) (iblk m d 4 t) (iblk m d 5 t)
    (iblk m d 6 t) (iblk m d 7 t) (pixels x (image t)) (x (image t) 0) Wq bq W (fun c => bkv ⟨768 + c.val, by omega⟩)
    (fun i l => ?_) (fun i => ?_) (fun c i => ?_) (fun c => ?_) (fun c i => ?_) (fun c => ?_) o).trans ?_
  · rw [block_pixels, V_pixels, h0]; rfl
  · rw [block_token, V_token, h0]
  · rw [block_wq, V_wq, h1]
  · rw [block_bq, V_bq, h2]
  · rw [block_wkv, V_wkv, h3]
  · rw [block_bv, V_bv, h4]
  · rw [View.read_apply, block_bo, V_bo]
    simp only [block_wo, V_wo]
    have e0 : (((cfg0.win 8).blk t).view.emb (ix3 0 0 o) : S16x1x1536.Idx) = ix3 (image t) 0 o := by
      refine funext fun a => Fin.ext ?_
      match a with
      | ⟨0, _⟩ => show win0_8.index t 0 * 1 + 1 * 0 = t.val; rw [e.1]; omega
      | ⟨1, _⟩ => show win0_8.index t 1 * 1 + 1 * 0 = 0; rw [e.2.1]
      | ⟨2, _⟩ => show win0_8.index t 2 * 1536 + 1 * o.val = o.val; rw [e.2.2]; omega
    rw [e0]
    rfl

end Cert.KernelIdeal.Body

end
-- ==== Proof.RefRoute.lean ====
/-
  The reference's routing: its query, keys and values, the largest keys of each region, the regions' scores, and the
  regions it keeps.
-/
module

public import proofs.«01_k».proof.Proof.Context
public import proofs.«01_k».proof.Proof.Gen.ReferenceIdeal.Run
public import Idealize.ShloMosaic.Lib.Pointwise

@[expose] public section

set_option maxRecDepth 16384

noncomputable section

namespace Cert.ReferenceIdeal.Body

open Cert.ReferenceIdeal Cert.ReferenceIdeal.Gen Cert.ReferenceIdeal.Value Cert.Routing Idealize.ShloMosaic

/-! ## The arguments -/

/-- The tokens. -/
abbrev tokens (V0 : Valuation τ sig (Elt Ideal)) : Vec Ideal S16x1025x768 .f32 := V0 (Proc.devRef .tc main_arg0)

/-- The query's weights. -/
abbrev wq (V0 : Valuation τ sig (Elt Ideal)) : Vec Ideal S768x768 .f32 := V0 (Proc.devRef .tc main_arg1)

/-- The query's bias. -/
abbrev bq (V0 : Valuation τ sig (Elt Ideal)) : Vec Ideal S768 .f32 := V0 (Proc.devRef .tc main_arg2)

/-- The keys' and values' weights. -/
abbrev wkv (V0 : Valuation τ sig (Elt Ideal)) : Vec Ideal S1536x768 .f32 := V0 (Proc.devRef .tc main_arg3)

/-- The keys' and values' biases. -/
abbrev bkv (V0 : Valuation τ sig (Elt Ideal)) : Vec Ideal S1536 .f32 := V0 (Proc.devRef .tc main_arg4)

/-! ## Projections -/

theorem query_read (V0 : Valuation τ sig (Elt Ideal)) (b : Fin 16) (u : Fin 768 → ℝ) (Wq : Fin 768 → Fin 768 → ℝ)
    (qb : Fin 768 → ℝ)
    (h0 : ∀ i, tokens V0 (ix3 b 0 i) = (u i : EReal))
    (h1 : ∀ c i, wq V0 (ix2 c i) = (Wq c i : EReal))
    (h2 : ∀ c, bq V0 (ix1 c) = (qb c : EReal)) (c : Fin 768) :
    (res_main_v9 V0 : Vec Ideal S16x1x768 .f32) (ix3 b 0 c) = (query u Wq qb c : EReal) := by
  have e : (res_main_v9 V0 : Vec Ideal S16x1x768 .f32) (ix3 b 0 c)
      = (∑ i : Fin 768, tokens V0 (ix3 b 0 i)
          * wq V0 (ix2 c i))
        + bq V0 (ix1 c) := by
    unfold res_main_v9 tokens wq bq
    generalize V0 (Proc.devRef .tc main_arg0) = a0
    generalize V0 (Proc.devRef .tc main_arg1) = a1
    generalize V0 (Proc.devRef .tc main_arg2) = a2
    pointwise
  rw [e]
  simp only [h0, h1, h2, ← EReal.coe_mul, ← coe_sum, ← EReal.coe_add]
  rfl

theorem project_read (V0 : Valuation τ sig (Elt Ideal)) (b : Fin 16) (x : Fin 16 → Fin 1025 → Fin 768 → ℝ)
    (W : Fin 1536 → Fin 768 → ℝ) (kb : Fin 1536 → ℝ)
    (h0 : ∀ n i, tokens V0 (ix3 b n i) = (x b n i : EReal))
    (h3 : ∀ c i, wkv V0 (ix2 c i) = (W c i : EReal))
    (h4 : ∀ c, bkv V0 (ix1 c) = (kb c : EReal))
    (c : Fin 1536) (v w : Fin 32) :
    (res_main_v14 V0 : Vec Ideal S16x1536x32x32 .f32) (ix4 b c v w)
      = (((∑ i : Fin 768, W c i * pixels x b i ⟨v.val * 32 + w.val, by omega⟩) + kb c : ℝ) : EReal) := by
  have e : (res_main_v14 V0 : Vec Ideal S16x1536x32x32 .f32) (ix4 b c v w)
      = (∑ i : Fin 768, wkv V0 (ix2 c i)
          * tokens V0
              (ix3 b (row i ⟨v.val * 32 + w.val, by omega⟩) (col i ⟨v.val * 32 + w.val, by omega⟩)))
        + bkv V0 (ix1 c) := by
    unfold res_main_v14 tokens wkv bkv
    generalize V0 (Proc.devRef .tc main_arg0) = a0
    generalize V0 (Proc.devRef .tc main_arg3) = a3
    generalize V0 (Proc.devRef .tc main_arg4) = a4
    pointwise
    refine congrArg₂ (HAdd.hAdd (α := EReal) (β := EReal)) (Finset.sum_congr rfl fun i _ =>
      congrArg₂ (HMul.hMul (α := EReal) (β := EReal)) rfl (congrArg a0 (congrArg₂ (ix3 b) (Fin.ext ?_) (Fin.ext ?_)))) rfl
    · show _ = 1 + (i.val * 1024 + (v.val * 32 + w.val)) / 768
      dsimp only
      omega
    · show _ = (i.val * 1024 + (v.val * 32 + w.val)) % 768
      dsimp only
      omega
  rw [e]
  simp only [h0, h3, h4, ← EReal.coe_mul, ← coe_sum, ← EReal.coe_add]
  rfl

theorem keys_read (V0 : Valuation τ sig (Elt Ideal)) (b : Fin 16) (c : Fin 768) (v w : Fin 32) :
    (res_main_v15 V0 : Vec Ideal S16x768x32x32 .f32) (ix4 b c v w)
      = (res_main_v14 V0 : Vec Ideal S16x1536x32x32 .f32) (ix4 b ⟨c.val, by omega⟩ v w) := by
  unfold res_main_v15
  generalize res_main_v14 V0 = a
  pointwise

/-! ## Regions -/

/-- The largest entry of a window of keys is the largest key of the region. -/
theorem peak_read (k : Vec Ideal S16x768x32x32 .f32) (b : Fin 16) (K : Fin 768 → Fin 1024 → ℝ)
    (hk : ∀ c v w, k (ix4 b c v w) = (K c ⟨v.val * 32 + w.val, by omega⟩ : EReal)) (c : Fin 768) (r : Fin 64) :
    (shapeCast S16x768x64 (Host.reduce (FloatOps.maximumf (F := Ideal) (φ := .f32)) (shapeCast S16x768x8x4x8x4 k
        shapeCasts_S16x768x32x32_S16x768x8x4x8x4) (constant (F := Ideal) S_ .f32 0xFF800000#32)
        reducesTo_S16x768x8x4x8x4_S16x768x8x8_d3_5 h_S_) shapeCasts_S16x768x8x8_S16x768x64
        : Vec Ideal S16x768x64 .f32) (ix3 b c r) = (peak K c r : EReal) := by
  pointwise
  rw [ofBits_negInf]
  refine fold_max_eq _ _ Finset.univ Finset.univ_nonempty (fun t : Fin 16 => K c (site r t)) (fun i hi => ?_) fun t _ => ?_
  · have e := (Finset.mem_filter.mp hi).2
    have e0 : (i 0).val = b.val := congrArg Fin.val (congrFun e 0)
    have e1 : (i 1).val = c.val := congrArg Fin.val (congrFun e 1)
    have e2 : (i 2).val = r.val / 8 := congrArg Fin.val (congrFun e 2)
    have e3 : (i 4).val = r.val % 8 := congrArg Fin.val (congrFun e 3)
    have b3 : (i 3).val < 4 := (i 3).isLt
    have b5 : (i 5).val < 4 := (i 5).isLt
    refine ⟨⟨(i 3).val * 4 + (i 5).val, by omega⟩, Finset.mem_univ _, ?_⟩
    rw [show i 0 = b from Fin.ext e0, show i 1 = c from Fin.ext e1, hk]
    refine congrArg (fun l => (K c l : EReal)) (Fin.ext ?_)
    show ((i 2).val * 4 + (i 3).val) * 32 + ((i 4).val * 4 + (i 5).val)
      = r.val / 8 * 128 + ((i 3).val * 4 + (i 5).val) / 4 * 32 + r.val % 8 * 4 + ((i 3).val * 4 + (i 5).val) % 4
    omega
  · refine ⟨ix6 b c ⟨r.val / 8, by omega⟩ ⟨t.val / 4, by omega⟩ ⟨r.val % 8, by omega⟩ ⟨t.val % 4, by omega⟩,
      Finset.mem_filter.mpr ⟨Finset.mem_univ _, ?_⟩, ?_⟩
    · refine funext fun a => ?_
      match a with
      | ⟨0, _⟩ => rfl
      | ⟨1, _⟩ => rfl
      | ⟨2, _⟩ => rfl
      | ⟨3, _⟩ => rfl
    · refine (hk c _ _).trans (congrArg (fun l => (K c l : EReal)) (Fin.ext ?_))
      show (r.val / 8 * 4 + t.val / 4) * 32 + (r.val % 8 * 4 + t.val % 4)
        = r.val / 8 * 128 + t.val / 4 * 32 + r.val % 8 * 4 + t.val % 4
      omega

theorem product_apply (u : FVec Ideal S16x1x768 .f32) (p : FVec Ideal S16x768x64 .f32) (b : Fin 16) (r : Fin 64) :
    (Host.dotGeneral dot_S16x1x768_S16x768x64_S16x1x64_2_1_1_2_0_0 none u p : FVec Ideal S16x1x64 .f32) (ix3 b 0 r)
      = ∑ c : Fin 768, u (ix3 b 0 c) * p (ix3 b c r) := by
  pointwise

theorem affinity_read (V0 : Valuation τ sig (Elt Ideal)) (b : Fin 16) (q : Fin 768 → ℝ) (K : Fin 768 → Fin 1024 → ℝ)
    (hq : ∀ c, (res_main_v9 V0 : Vec Ideal S16x1x768 .f32) (ix3 b 0 c) = (q c : EReal))
    (hk : ∀ c v w, (res_main_v15 V0 : Vec Ideal S16x768x32x32 .f32) (ix4 b c v w)
      = (K c ⟨v.val * 32 + w.val, by omega⟩ : EReal)) (r : Fin 64) :
    (res_main_v20 V0 : Vec Ideal S16x1x64 .f32) (ix3 b 0 r) = (affinity q K r : EReal) := by
  unfold res_main_v20
  refine (product_apply _ _ b r).trans ?_
  simp only [hq, peak_read _ b K hk, ← EReal.coe_mul, ← coe_sum]
  rfl

/-- The positions of the largest entries along the last axis are the first of the sorted positions. -/
theorem topK_apply {α : Type} (gt : α → α → BitVec 1) (s : S16x1x64.Idx → α) (b : Fin 16) (k : Fin 32) :
    (Host.topK S16x1x32 2 gt s sliceFits_S16x1x64_S16x1x32).2 (ix3 b 0 k)
      = BitVec.ofNat 32 (sortedFrom (fun i j : Fin 64 => gt (s (ix3 b 0 i)) (s (ix3 b 0 j)) == 1#1)
          ⟨k.val, by omega⟩).val := by
  have hr : 2 < S16x1x64.rank := by decide
  have ha : ∀ i : Fin 64, Shape.Idx.along (s := S16x1x64) (ix3 b 0 ⟨k.val, by omega⟩) ⟨2, hr⟩ i = ix3 b 0 i := by
    intro i
    funext a
    match a with
    | ⟨0, _⟩ => rfl
    | ⟨1, _⟩ => rfl
    | ⟨2, _⟩ => rfl
  have e : extractStridedSlice S16x1x32 (fun _ => 0) (Host.sort2 S16x1x64 2 (fun l r => gt l.1 r.1) s
        (fun i => if hd : 2 < S16x1x64.rank then iotaInDim S16x1x64 32 ⟨2, hd⟩ i else 0#32)).2
        sliceFits_S16x1x64_S16x1x32 (ix3 b 0 k)
      = (Host.sort2 S16x1x64 2 (fun l r => gt l.1 r.1) s
        (fun i => if hd : 2 < S16x1x64.rank then iotaInDim S16x1x64 32 ⟨2, hd⟩ i else 0#32)).2
        (ix3 b 0 ⟨k.val, by omega⟩) := by
    generalize (Host.sort2 S16x1x64 2 (fun l r => gt l.1 r.1) s
        (fun i => if hd : 2 < S16x1x64.rank then iotaInDim S16x1x64 32 ⟨2, hd⟩ i else 0#32)).2 = v
    pointwise
  refine e.trans ?_
  unfold Host.sort2
  rw [dif_pos hr]
  simp only [dif_pos hr]
  refine (congrArg (iotaInDim S16x1x64 32 ⟨2, hr⟩) (ha _)).trans ?_
  refine congrArg (fun f : Fin 64 → Fin 64 → Bool => BitVec.ofNat 32 (sortedFrom f ⟨k.val, by omega⟩).val) ?_
  funext i j
  exact congrArg₂ (fun x y => gt (s x) (s y) == 1#1) (ha i) (ha j)

/-- The `k`th region the reference keeps is the one at place `k` of the regions ordered by their scores. -/
theorem topK_read (s : Vec Ideal S16x1x64 .f32) (b : Fin 16) (a : Fin 64 → ℝ)
    (hs : ∀ r, s (ix3 b 0 r) = (a r : EReal)) (k : Fin 32) :
    (Host.topK S16x1x32 2 (FloatOps.cmpfTotal (F := Ideal) (φ := .f32) .gt) s sliceFits_S16x1x64_S16x1x32).2 (ix3 b 0 k)
      = BitVec.ofNat 32 (sortedFrom (larger a) ⟨k.val, by omega⟩).val := by
  have hf : (fun i j : Fin 64 => (FloatOps.cmpfTotal (F := Ideal) (φ := .f32) .gt (s (ix3 b 0 i)) (s (ix3 b 0 j)) == 1#1))
      = larger a := by
    funext i j
    rw [hs, hs]
    show (BitVec.ofBool (decide ((a j : EReal) < (a i : EReal))) == 1#1) = decide (a j < a i)
    simp only [EReal.coe_lt_coe_iff]
    by_cases h : a j < a i <;> simp [h]
  rw [topK_apply, hf]

end Cert.ReferenceIdeal.Body

end
-- ==== Proof.RefGather.lean ====
/-
  The reference's gathers: the keys and values of the regions it keeps.
-/
module

public import proofs.«01_k».proof.Proof.RefRoute

@[expose] public section

set_option maxRecDepth 16384

noncomputable section

namespace Cert.ReferenceIdeal.Body

open Cert.ReferenceIdeal Cert.ReferenceIdeal.Gen Cert.ReferenceIdeal.Value Cert.Routing Idealize.ShloMosaic

theorem toInt_region (r : Fin 64) : (BitVec.ofNat 32 r.val).toInt = r.val := by
  revert r
  decide +kernel

theorem inRange (r : Fin 64) : IntOp.andi (IntOp.cmpi .sge (BitVec.ofNat 32 r.val) 0#32)
    (IntOp.cmpi .sle (BitVec.ofNat 32 r.val) 63#32) = 1#1 := by
  revert r
  decide +kernel

/-- An index that names a region is not counted from the end. -/
theorem wrap_region (r : Fin 64) : Scalar.select (IntOp.cmpi .slt (BitVec.ofNat 32 r.val) 0#32)
    (IntOp.addi (BitVec.ofNat 32 r.val) 64#32) (BitVec.ofNat 32 r.val) = BitVec.ofNat 32 r.val := by
  revert r
  decide +kernel

theorem fold_andi_one {ι : Type} (s : Finset ι) (f : ι → BitVec 1) (hf : ∀ i ∈ s, f i = 1#1) :
    s.fold IntOp.andi 1#1 f = 1#1 := by
  classical
  induction s using Finset.induction_on with
  | empty => rfl
  | insert a s ha ih =>
    rw [Finset.fold_insert ha, hf a (Finset.mem_insert_self _ _), ih fun i hi => hf i (Finset.mem_insert_of_mem hi)]
    rfl

/-- A gather reads the region its index names. -/
theorem gather_apply {α : Type} (x : S16x12x1x64x16x64.Idx → α) (idx : IVec S16x12x32x16x64x1 32) (b : Fin 16) (h : Fin 12)
    (k : Fin 32) (t : Fin 16) (d : Fin 64) (r : Fin 64) (hi : idx (ix6 b h k t d 0) = BitVec.ofNat 32 r.val) :
    Host.gather gather_S16x12x1x64x16x64_S16x12x32x16x64x1_S16x12x1x32x16x64_2_3_0145_0134_3_5_111111 x idx
      (ix6 b h 0 k t d) = x (ix6 b h 0 r t d) := by
  refine congrArg x (funext fun a => Fin.ext ?_)
  unfold GatherDims.operandIdx
  match a with
  | ⟨0, _⟩ => show 0 + b.val + 0 = b.val; omega
  | ⟨1, _⟩ => show 0 + h.val + 0 = h.val; omega
  | ⟨2, _⟩ => rfl
  | ⟨3, _⟩ =>
    have e : idx (GatherDims.siIdx gather_S16x12x1x64x16x64_S16x12x32x16x64x1_S16x12x1x32x16x64_2_3_0145_0134_3_5_111111
        (ix6 b h 0 k t d) ⟨0, by decide⟩) = BitVec.ofNat 32 r.val := by
      refine (congrArg idx (funext fun a => Fin.ext ?_)).trans hi
      match a with
      | ⟨0, _⟩ => rfl
      | ⟨1, _⟩ => rfl
      | ⟨2, _⟩ => rfl
      | ⟨3, _⟩ => rfl
      | ⟨4, _⟩ => rfl
      | ⟨5, _⟩ => rfl
    show min (idx (GatherDims.siIdx gather_S16x12x1x64x16x64_S16x12x32x16x64x1_S16x12x1x32x16x64_2_3_0145_0134_3_5_111111
        (ix6 b h 0 k t d) ⟨0, by decide⟩)).toInt.toNat 63 + 0 + 0 = r.val
    rw [e, toInt_region]
    omega
  | ⟨4, _⟩ => show 0 + t.val + 0 = t.val; omega
  | ⟨5, _⟩ => show 0 + d.val + 0 = d.val; omega

/-- Whether each index names a region. -/
def checked (idx : IVec S16x12x32x16x64x1 32) : IVec S16x12x32x16x64 1 :=
  Host.reduce IntOp.andi (andi
      (cmpi .sge idx (broadcastInDim S16x12x32x16x64x1 ![] bcast_S_S16x12x32x16x64x1 (constantI S_ 32 0#32)))
      (cmpi .sle idx (broadcastInDim S16x12x32x16x64x1 ![0, 1, 2, 3, 4, 5]
        bcast_S1x1x1x1x1x1_S16x12x32x16x64x1_0_1_2_3_4_5 (broadcastInDim S1x1x1x1x1x1 ![5] bcast_S1_S1x1x1x1x1x1_5
          (constantI S1 32 63#32)))))
    (constantI S_ 1 1#1) reducesTo_S16x12x32x16x64x1_S16x12x32x16x64_d5 h_S_

/-- A map of 768 channels, head by head and region by region. -/
def byRegion (x : FVec Ideal S16x768x32x32 .f32) : FVec Ideal S16x12x1x64x16x64 .f32 :=
  broadcastInDim S16x12x1x64x16x64 ![0, 1, 3, 4, 5] bcast_S16x12x64x16x64_S16x12x1x64x16x64_0_1_3_4_5
    (shapeCast S16x12x64x16x64 (transpose S16x12x8x8x4x4x64 [0, 1, 3, 5, 4, 6, 2]
      (shapeCast S16x12x64x8x4x8x4 x shapeCasts_S16x768x32x32_S16x12x64x8x4x8x4)
      transposes_S16x12x64x8x4x8x4_S16x12x8x8x4x4x64_0_1_3_5_4_6_2) shapeCasts_S16x12x8x8x4x4x64_S16x12x64x16x64)

/-- What the reference gathers from a map of 768 channels. -/
def picked (x : FVec Ideal S16x768x32x32 .f32) (idx : IVec S16x12x32x16x64x1 32) : FVec Ideal S16x12x1x512x64 .f32 :=
  shapeCast S16x12x1x512x64 (select (broadcastInDim S16x12x1x32x16x64 ![0, 1, 3, 4, 5]
      bcast_S16x12x32x16x64_S16x12x1x32x16x64_0_1_3_4_5 (checked idx))
    (Host.gather gather_S16x12x1x64x16x64_S16x12x32x16x64x1_S16x12x1x32x16x64_2_3_0145_0134_3_5_111111 (byRegion x) idx)
    (broadcastInDim S16x12x1x32x16x64 ![] bcast_S_S16x12x1x32x16x64 (constant (F := Ideal) S_ .f32 0x7FC00000#32)))
    shapeCasts_S16x12x1x32x16x64_S16x12x1x512x64

/-- The range check on an index that names a region holds. -/
theorem check_apply (idx : IVec S16x12x32x16x64x1 32) (b : Fin 16) (h : Fin 12) (k : Fin 32) (t : Fin 16) (d : Fin 64)
    (r : Fin 64) (hi : idx (ix6 b h k t d 0) = BitVec.ofNat 32 r.val) :
    checked idx (ix5 b h k t d) = 1#1 := by
  unfold checked
  pointwise
  refine fold_andi_one _ _ fun i hi' => ?_
  have e := (Finset.mem_filter.mp hi').2
  have ei : i = ix6 b h k t d 0 := by
    refine funext fun a => Fin.ext ?_
    match a with
    | ⟨0, _⟩ => exact congrArg Fin.val (congrFun e 0)
    | ⟨1, _⟩ => exact congrArg Fin.val (congrFun e 1)
    | ⟨2, _⟩ => exact congrArg Fin.val (congrFun e 2)
    | ⟨3, _⟩ => exact congrArg Fin.val (congrFun e 3)
    | ⟨4, _⟩ => exact congrArg Fin.val (congrFun e 4)
    | ⟨5, _⟩ => exact Nat.lt_one_iff.mp (i 5).isLt
  rw [ei, hi]
  exact inRange r

/-- The index the reference gathers keys by: the regions it keeps, in order. -/
theorem keyIndex_read (V0 : Valuation τ sig (Elt Ideal)) (b : Fin 16) (a : Fin 64 → ℝ)
    (hs : ∀ r, (res_main_v20 V0 : Vec Ideal S16x1x64 .f32) (ix3 b 0 r) = (a r : EReal)) (h : Fin 12) (k : Fin 32)
    (t : Fin 16) (d : Fin 64) :
    (res_main_call0_v5 V0 : IVec S16x12x32x16x64x1 32) (ix6 b h k t d 0)
      = BitVec.ofNat 32 (sortedFrom (larger a) ⟨k.val, by omega⟩).val := by
  have e : (res_main_v32 V0 : IVec S16x12x1x32x16x64 32) (ix6 b h 0 k t d)
      = BitVec.ofNat 32 (sortedFrom (larger a) ⟨k.val, by omega⟩).val := by
    refine Eq.trans ?_ (topK_read _ b a hs k)
    unfold res_main_v32
    generalize (res_main_v20 V0) = q
    pointwise
  unfold res_main_call0_v5
  refine Eq.trans ?_ (wrap_region _)
  rw [← e]
  generalize (res_main_v32 V0) = q
  pointwise

/-- Values are gathered by the same index. -/
theorem valueIndex_eq (V0 : Valuation τ sig (Elt Ideal)) : res_main_call1_v5 V0 = res_main_call0_v5 V0 := rfl

theorem byRegion_apply (x : FVec Ideal S16x768x32x32 .f32) (b : Fin 16) (h : Fin 12) (r : Fin 64) (t : Fin 16)
    (d : Fin 64) : byRegion x (ix6 b h 0 r t d)
      = x (ix4 b ⟨h.val * 64 + d.val, by omega⟩ ⟨r.val / 8 * 4 + t.val / 4, by omega⟩ ⟨r.val % 8 * 4 + t.val % 4, by omega⟩) := by
  pointwise [byRegion]

/-- The gathered keys or values at place `e` of the kept locations, which is in region `r`. -/
theorem picked_read (x : FVec Ideal S16x768x32x32 .f32) (idx : IVec S16x12x32x16x64x1 32) (b : Fin 16) (h : Fin 12)
    (e : Fin 512) (d : Fin 64) (r : Fin 64)
    (hi : idx (ix6 b h ⟨e.val / 16, by omega⟩ ⟨e.val % 16, by omega⟩ d 0) = BitVec.ofNat 32 r.val)
    (f : Fin 768 → Fin 1024 → ℝ) (hx : ∀ c v w, x (ix4 b c v w) = (f c ⟨v.val * 32 + w.val, by omega⟩ : EReal)) :
    picked x idx (ix5 b h 0 e d)
      = (f ⟨h.val * 64 + d.val, by omega⟩ (site r ⟨e.val % 16, by omega⟩) : EReal) := by
  have hc := check_apply idx b h ⟨e.val / 16, by omega⟩ ⟨e.val % 16, by omega⟩ d r hi
  have hg := gather_apply (byRegion x) idx b h ⟨e.val / 16, by omega⟩ ⟨e.val % 16, by omega⟩ d r hi
  unfold picked
  pointwise
  rw [hc, hg]
  refine (byRegion_apply x b h r _ d).trans ?_
  rw [hx]
  refine congrArg (fun l => (f ⟨h.val * 64 + d.val, by omega⟩ l : EReal)) (Fin.ext ?_)
  show (r.val / 8 * 4 + e.val % 16 / 4) * 32 + (r.val % 8 * 4 + e.val % 16 % 4)
    = r.val / 8 * 128 + e.val % 16 / 4 * 32 + r.val % 8 * 4 + e.val % 16 % 4
  omega

end Cert.ReferenceIdeal.Body

end
-- ==== Proof.RefAttend.lean ====
/-
  The reference's attention: its scores, its softmax, and its result.
-/
module

public import proofs.«01_k».proof.Proof.RefGather

@[expose] public section

set_option maxRecDepth 16384

noncomputable section

namespace Cert.ReferenceIdeal.Body

open Cert.ReferenceIdeal Cert.ReferenceIdeal.Gen Cert.ReferenceIdeal.Value Cert.Routing Idealize.ShloMosaic

/-! ## Scores -/

/-- The scores, for a query `u` and gathered keys `k`. -/
def scores (u : FVec Ideal S16x1x768 .f32) (k : FVec Ideal S16x12x1x512x64 .f32) : FVec Ideal S16x12x1x1x512 .f32 :=
  Host.dotGeneral dot_S16x12x1x1x64_S16x12x1x512x64_S16x12x1x1x512_4_4_3_3_012_012 none
    (Host.divf (broadcastInDim S16x12x1x1x64 ![0, 1, 3, 4] bcast_S16x12x1x64_S16x12x1x1x64_0_1_3_4
        (transpose S16x12x1x64 [0, 2, 1, 3] (shapeCast S16x1x12x64 u shapeCasts_S16x1x768_S16x1x12x64)
          transposes_S16x1x12x64_S16x12x1x64_0_2_1_3))
      (broadcastInDim S16x12x1x1x64 ![] bcast_S_S16x12x1x1x64 (Host.sqrt (constant (F := Ideal) S_ .f32 0x44400000#32)))) k

theorem scores_eq (V0 : Valuation τ sig (Elt Ideal)) :
    res_main_v43 V0 = scores (res_main_v9 V0) (picked (res_main_v15 V0) (res_main_call0_v5 V0)) := rfl

theorem scores_apply (u : FVec Ideal S16x1x768 .f32) (k : FVec Ideal S16x12x1x512x64 .f32) (b : Fin 16) (h : Fin 12)
    (e : Fin 512) : scores u k (ix5 b h 0 0 e)
      = ∑ d : Fin 64, Ideal.div (u (ix3 b 0 ⟨h.val * 64 + d.val, by omega⟩)) (Ideal.sqrt (Ideal.ofBits .f32 0x44400000#32))
          * k (ix5 b h 0 e d) := by
  pointwise [scores]

theorem scores_read (u : FVec Ideal S16x1x768 .f32) (k : FVec Ideal S16x12x1x512x64 .f32) (b : Fin 16) (h : Fin 12)
    (e : Fin 512) (q : Fin 768 → ℝ) (K : Fin 768 → Fin 1024 → ℝ) (l : Fin 1024)
    (hq : ∀ c, u (ix3 b 0 c) = (q c : EReal))
    (hk : ∀ d : Fin 64, k (ix5 b h 0 e d) = (K ⟨h.val * 64 + d.val, by omega⟩ l : EReal)) :
    scores u k (ix5 b h 0 0 e) = (score scale q K h l : EReal) := by
  rw [scores_apply, score_eq]
  simp only [hq, hk, ofBits_depth, div_depth, ← EReal.coe_mul, ← coe_sum]

/-! ## Weights -/

/-- The exponentials of the scores `s`, the largest score of each head taken off. -/
def exps (s : FVec Ideal S16x12x1x1x512 .f32) : FVec Ideal S16x12x1x1x512 .f32 :=
  Host.exp (subf s (broadcastInDim S16x12x1x1x512 ![0, 1, 2, 3, 4] bcast_S16x12x1x1x1_S16x12x1x1x512_0_1_2_3_4
    (broadcastInDim S16x12x1x1x1 ![0, 1, 2, 3] bcast_S16x12x1x1_S16x12x1x1x1_0_1_2_3
      (maximumf (broadcastInDim S16x12x1x1 ![] bcast_S_S16x12x1x1 (constant (F := Ideal) S_ .f32 0xFF800000#32))
        (Host.reduce (FloatOps.maximumf (F := Ideal) (φ := .f32)) s (constant (F := Ideal) S_ .f32 0xFF800000#32)
          reducesTo_S16x12x1x1x512_S16x12x1x1_d4 h_S_)))))

theorem exps_eq (V0 : Valuation τ sig (Elt Ideal)) : res_main_v50 V0 = exps (res_main_v43 V0) := rfl

theorem exps_read (s : FVec Ideal S16x12x1x1x512 .f32) (b : Fin 16) (h : Fin 12) (f : Fin 512 → ℝ)
    (hs : ∀ e, s (ix5 b h 0 0 e) = (f e : EReal)) :
    ∃ m : ℝ, ∀ e, exps s (ix5 b h 0 0 e) = Ideal.exp ((f e : EReal) - (m : EReal)) := by
  obtain ⟨m, hm⟩ := exists_real_max Finset.univ (fun e : Fin 512 => s (ix5 b h 0 0 e))
    (fun e _ => by rw [hs]; exact EReal.coe_ne_top _) ⟨0, Finset.mem_univ _, by rw [hs]; exact EReal.coe_ne_bot _⟩
  refine ⟨m, fun e => ?_⟩
  unfold exps
  pointwise
  rw [ofBits_negInf, hm, hs]
  simp

/-- The softmax of exponentials `x`. -/
def normalized (x : FVec Ideal S16x12x1x1x512 .f32) : FVec Ideal S16x12x1x1x512 .f32 :=
  Host.divf x (broadcastInDim S16x12x1x1x512 ![0, 1, 2, 3, 4] bcast_S16x12x1x1x1_S16x12x1x1x512_0_1_2_3_4
    (broadcastInDim S16x12x1x1x1 ![0, 1, 2, 3] bcast_S16x12x1x1_S16x12x1x1x1_0_1_2_3
      (Host.reduceAdd x (constant (F := Ideal) S_ .f32 0x00000000#32) reducesTo_S16x12x1x1x512_S16x12x1x1_d4 h_S_)))

theorem normalized_apply (x : FVec Ideal S16x12x1x1x512 .f32) (b : Fin 16) (h : Fin 12) (e : Fin 512) :
    normalized x (ix5 b h 0 0 e) = Ideal.div (x (ix5 b h 0 0 e)) (∑ k : Fin 512, x (ix5 b h 0 0 k)) := by
  pointwise [normalized]

theorem weights_read (s : FVec Ideal S16x12x1x1x512 .f32) (b : Fin 16) (h : Fin 12) (f : Fin 512 → ℝ)
    (hs : ∀ e, s (ix5 b h 0 0 e) = (f e : EReal)) (e : Fin 512) :
    normalized (exps s) (ix5 b h 0 0 e) = (weight Finset.univ f e : EReal) := by
  obtain ⟨m, hm⟩ := exps_read s b h f hs
  rw [normalized_apply]
  simp only [hm]
  refine (softmax_eq (fun _ => True) ⟨e, trivial⟩ f _ (fun i => (if_pos trivial).symm) m e).trans ?_
  rw [if_pos trivial, Finset.filter_true]

/-! ## The result -/

/-- The result, for weights `w`, gathered values `v`, and the last projection's weights and bias. -/
def output (w : FVec Ideal S16x12x1x1x512 .f32) (v : FVec Ideal S16x12x1x512x64 .f32) (wo : FVec Ideal S1536x768 .f32)
    (bo : FVec Ideal S1536 .f32) : FVec Ideal S16x1x1536 .f32 :=
  shapeCast S16x1x1536 (addf (Host.dotGeneral dot_S16x768_S768x1536_S16x1536_1_0_0_1_n_n none
      (shapeCast S16x768 (Host.dotGeneral dot_S16x12x1x1x512_S16x12x1x512x64_S16x12x1x1x64_4_3_3_4_012_012 none w v)
        shapeCasts_S16x12x1x1x64_S16x768)
      (transpose S768x1536 [1, 0] wo transposes_S1536x768_S768x1536_1_0))
    (broadcastInDim S16x1536 ![0, 1] bcast_S1x1536_S16x1536_0_1 (broadcastInDim S1x1536 ![1] bcast_S1536_S1x1536_1 bo)))
    shapeCasts_S16x1536_S16x1x1536

theorem output_apply (w : FVec Ideal S16x12x1x1x512 .f32) (v : FVec Ideal S16x12x1x512x64 .f32)
    (wo : FVec Ideal S1536x768 .f32) (bo : FVec Ideal S1536 .f32) (b : Fin 16) (o : Fin 1536) :
    output w v wo bo (ix3 b 0 o)
      = (∑ c : Fin 768, (∑ e : Fin 512, w (ix5 b (head c) 0 0 e) * v (ix5 b (head c) 0 e ⟨c.val % 64, by omega⟩))
          * wo (ix2 o c)) + bo (ix1 o) := by
  pointwise [output]
  rfl

end Cert.ReferenceIdeal.Body

end
-- ==== Proof.RefResult.lean ====
/-
  The reference's result, for real arguments.
-/
module

public import proofs.«01_k».proof.Proof.RefAttend

@[expose] public section

set_option maxRecDepth 16384

noncomputable section

namespace Cert.ReferenceIdeal.Body

open Cert.ReferenceIdeal Cert.ReferenceIdeal.Gen Cert.ReferenceIdeal.Value Cert.Routing Idealize.ShloMosaic

/-- The values' channels of the projected map. -/
def valueMap (V0 : Valuation τ sig (Elt Ideal)) : FVec Ideal S16x768x32x32 .f32 :=
  extractStridedSlice S16x768x32x32 ![0, 768, 0, 0] (res_main_v14 V0) slices_S16x1536x32x32_S16x768x32x32_0_768_0_0

theorem valueMap_apply (V0 : Valuation τ sig (Elt Ideal)) (b : Fin 16) (c : Fin 768) (v w : Fin 32) :
    valueMap V0 (ix4 b c v w)
      = (res_main_v14 V0 : Vec Ideal S16x1536x32x32 .f32) (ix4 b ⟨768 + c.val, by omega⟩ v w) := by
  unfold valueMap
  generalize res_main_v14 V0 = a
  pointwise

/-- What the reference's result holds, when the arguments that decide the routing and the weights are real. -/
theorem result_apply (V0 : Valuation τ sig (Elt Ideal)) (wo : FVec Ideal S1536x768 .f32) (bo : FVec Ideal S1536 .f32)
    (x : Fin 16 → Fin 1025 → Fin 768 → ℝ) (Wq : Fin 768 → Fin 768 → ℝ) (qb : Fin 768 → ℝ)
    (W : Fin 1536 → Fin 768 → ℝ) (kb : Fin 1536 → ℝ)
    (h0 : ∀ b n i, tokens V0 (ix3 b n i) = (x b n i : EReal)) (h1 : ∀ c i, wq V0 (ix2 c i) = (Wq c i : EReal))
    (h2 : ∀ c, bq V0 (ix1 c) = (qb c : EReal)) (h3 : ∀ c i, wkv V0 (ix2 c i) = (W c i : EReal))
    (h4 : ∀ c, bkv V0 (ix1 c) = (kb c : EReal)) (b : Fin 16) (o : Fin 1536) :
    output (normalized (res_main_v50 V0)) (picked (valueMap V0) (res_main_call1_v5 V0)) wo bo (ix3 b 0 o)
      = (∑ c : Fin 768, (context x Wq qb W kb b c : EReal) * wo (ix2 o c)) + bo (ix1 o) := by
  set q := query (x b 0) Wq qb with hq'
  set K : Fin 768 → Fin 1024 → ℝ := fun c l => project (fun c => W ⟨c.val, by omega⟩) (pixels x b) c l + kb ⟨c.val, by omega⟩
    with hK'
  set U : Fin 768 → Fin 1024 → ℝ := fun c l =>
    project (fun c => W ⟨768 + c.val, by omega⟩) (pixels x b) c l + kb ⟨768 + c.val, by omega⟩ with hU'
  have hq : ∀ c, (res_main_v9 V0 : Vec Ideal S16x1x768 .f32) (ix3 b 0 c) = (q c : EReal) :=
    query_read V0 b (x b 0) Wq qb (h0 b 0) h1 h2
  have hk : ∀ c v w, (res_main_v15 V0 : Vec Ideal S16x768x32x32 .f32) (ix4 b c v w)
      = (K c ⟨v.val * 32 + w.val, by omega⟩ : EReal) := fun c v w =>
    (keys_read V0 b c v w).trans (project_read V0 b x W kb (h0 b) h3 h4 _ v w)
  have hu : ∀ c v w, valueMap V0 (ix4 b c v w) = (U c ⟨v.val * 32 + w.val, by omega⟩ : EReal) := fun c v w =>
    (valueMap_apply V0 b c v w).trans (project_read V0 b x W kb (h0 b) h3 h4 _ v w)
  have hi := keyIndex_read V0 b (affinity q K) (affinity_read V0 b q K hq hk)
  have hs : ∀ h e, (res_main_v43 V0 : FVec Ideal S16x12x1x1x512 .f32) (ix5 b h 0 0 e)
      = (score scale q K h (gathered (sortedFrom (larger (affinity q K))) e) : EReal) := fun h e => by
    rw [scores_eq]
    exact scores_read _ _ b h e q K _ hq fun d => picked_read _ _ b h e d _ (hi h _ _ d) K hk
  have hw : ∀ h e, normalized (res_main_v50 V0) (ix5 b h 0 0 e) = (weight Finset.univ
      (fun e => score scale q K h (gathered (sortedFrom (larger (affinity q K))) e)) e : EReal) := fun h e => by
    rw [exps_eq]
    exact weights_read _ b h _ (hs h) e
  have hv : ∀ (c : Fin 768) (e : Fin 512), picked (valueMap V0) (res_main_call1_v5 V0)
      (ix5 b (head c) 0 e ⟨c.val % 64, by omega⟩) = (U c (gathered (sortedFrom (larger (affinity q K))) e) : EReal) :=
    fun c e => by
      rw [valueIndex_eq]
      refine (picked_read _ _ b (head c) e _ _ (hi (head c) _ _ _) U hu).trans ?_
      exact congrArg (fun c' => (U c' (gathered (sortedFrom (larger (affinity q K))) e) : EReal))
        (Fin.ext (Nat.div_add_mod' c.val 64))
  rw [output_apply]
  simp only [hw, hv, ← EReal.coe_mul, ← coe_sum]
  have hc : ∀ c, attended scale q K U c = context x Wq qb W kb b c := fun c =>
    attended_add scale q (project (fun c => W ⟨c.val, by omega⟩) (pixels x b)) U (fun c => kb ⟨c.val, by omega⟩) c
  simp only [gathered_eq, hc]

end Cert.ReferenceIdeal.Body

end
-- ==== Proof.Finite.lean ====
/-
  The precondition: an argument all of whose entries pass the test `|x| < ∞` is real.
-/
module

public import proofs.«01_k».proof.Proof.Gen.Pre_finite
public import Idealize.ShloMosaic.Lib.Pointwise
public import Idealize.ShloMosaic.PureOps.Ideal.Laws

@[expose] public section

noncomputable section

namespace Cert.Finite

open Cert.Pre_finite Cert.Pre_finite.Gen Idealize.ShloMosaic

theorem and_eq_one (a b : BitVec 1) : IntOp.andi a b = 1#1 → a = 1#1 ∧ b = 1#1 := by
  revert a b
  decide

theorem fold_and_eq_one {ι : Type} (s : Finset ι) (f : ι → BitVec 1) (h : s.fold IntOp.andi 1#1 f = 1#1) :
    ∀ i ∈ s, f i = 1#1 := by
  classical
  induction s using Finset.induction_on with
  | empty => intro i hi; exact absurd hi (Finset.notMem_empty i)
  | insert a s ha ih =>
    rw [Finset.fold_insert ha] at h
    intro i hi
    rcases Finset.mem_insert.mp hi with rfl | hi
    · exact (and_eq_one _ _ h).1
    · exact ih (and_eq_one _ _ h).2 i hi

theorem ofBits_inf : Ideal.ofBits .f32 0x7F800000#32 = ⊤ := by
  simp [Ideal.ofBits, Ideal.ieee]

theorem real_of_lt (x : EReal) (h : Ideal.cmp .olt (max x (-x)) ⊤ = 1#1) : ∃ r : ℝ, x = (r : EReal) := by
  have h' : max x (-x) < ⊤ := by
    by_contra hc
    rw [show Ideal.cmp .olt (max x (-x)) ⊤ = BitVec.ofBool (decide (max x (-x) < ⊤)) from rfl, decide_eq_false hc] at h
    exact absurd h (by decide)
  induction x using EReal.rec with
  | bot => simp at h'
  | top => simp at h'
  | coe r => exact ⟨r, rfl⟩

/-- An argument that passes the test is real. -/
theorem real_of_test {s : Shape} {axes : List (Fin s.rank)} (x : FVec Ideal s .f32)
    (hb : S_.BroadcastsInDim s (![] : Fin 0 → Fin s.rank)) (hr : s.ReducesTo axes S_) (j : S_.Idx)
    (h : Host.reduce IntOp.andi (cmpf .olt (Host.absf x) (broadcastInDim s ![] hb (constant (F := Ideal) S_ .f32 0x7F800000#32)))
      (constantI S_ 1 1#1) hr Facts.h_S_ j = 1#1) (i : s.Idx) : ∃ r : ℝ, x i = (r : EReal) := by
  rw [Host.reduce_eq_fold] at h
  have e := fold_and_eq_one _ _ h i (Finset.mem_filter.mpr ⟨Finset.mem_univ _, funext fun a => a.elim0⟩)
  refine real_of_lt _ ?_
  rw [← ofBits_inf]
  exact e

/-- The precondition makes the first five arguments real. -/
theorem args_real (a0 : FVec Ideal S16x1025x768 .f32) (a1 : FVec Ideal S768x768 .f32) (a2 : FVec Ideal S768 .f32)
    (a3 : FVec Ideal S1536x768 .f32) (a4 : FVec Ideal S1536 .f32) (a5 : FVec Ideal S1536x768 .f32)
    (a6 : FVec Ideal S1536 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h := congrFun h ix0
  unfold fn fn_part1 at h
  obtain ⟨h, h4⟩ := and_eq_one _ _ h
  obtain ⟨h, h3⟩ := and_eq_one _ _ h
  obtain ⟨h, h2⟩ := and_eq_one _ _ h
  obtain ⟨h, h1⟩ := and_eq_one _ _ h
  obtain ⟨_, h0⟩ := and_eq_one _ _ h
  exact ⟨real_of_test a0 Facts.bcast_S_S16x1025x768 Facts.reducesTo_S16x1025x768_S_d0_1_2 ix0 h0,
    real_of_test a1 Facts.bcast_S_S768x768 Facts.reducesTo_S768x768_S_d0_1 ix0 h1,
    real_of_test a2 Facts.bcast_S_S768 Facts.reducesTo_S768_S_d0 ix0 h2,
    real_of_test a3 Facts.bcast_S_S1536x768 Facts.reducesTo_S1536x768_S_d0_1 ix0 h3,
    real_of_test a4 Facts.bcast_S_S1536 Facts.reducesTo_S1536_S_d0 ix0 h4⟩

end Cert.Finite

end
-- ==== Proof.Algebraic.lean ====
/-
  The kernel and the reference compute the same result from finite arguments.
-/
module

public import proofs.«01_k».proof.Defs
public import proofs.«01_k».proof.Proof.KernelArray
public import proofs.«01_k».proof.Proof.RefResult
public import proofs.«01_k».proof.Proof.Finite

@[expose] public section

set_option maxRecDepth 16384

noncomputable section

namespace Cert.Algebraic

open Idealize.ShloMosaic Idealize.ShloMosaic.TcCoe Idealize.SL.Sem
  Idealize.ShloMosaic.StableHlo Cert.Routing

attribute [local instance] Cert.KernelIdeal.Gen.facts Cert.ReferenceIdeal.Gen.facts Cert.Pre_finite.Gen.facts

/-- The result both programs are shown to hold. -/
def result (x : Fin 16 → Fin 1025 → Fin 768 → ℝ) (Wq : Fin 768 → Fin 768 → ℝ) (bq : Fin 768 → ℝ)
    (W : Fin 1536 → Fin 768 → ℝ) (bkv : Fin 1536 → ℝ) (wo : FVec Ideal ⟨2, ![1536, 768]⟩ .f32)
    (bo : FVec Ideal ⟨1, ![1536]⟩ .f32) : FVec Ideal ⟨3, ![16, 1, 1536]⟩ .f32 := fun j =>
  (∑ c : Fin 768, (context x Wq bq W bkv (j 0) c : EReal) * wo (ix2 (j 2) c)) + bo (ix1 (j 2))

section Reference

open Cert.ReferenceIdeal Cert.ReferenceIdeal.Body Cert.ReferenceIdeal.Value

/-- What the reference leaves in its result, from the arguments it is launched with. -/
def referenceResult (V0 : Valuation τ sig (Elt Ideal)) : FVec Ideal ⟨3, ![16, 1, 1536]⟩ .f32 :=
  output (normalized (res_main_v50 V0)) (picked (valueMap V0) (res_main_call1_v5 V0))
    (V0 (Proc.devRef .tc main_arg5)) (V0 (Proc.devRef .tc main_arg6))

theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = referenceResult (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  unfold referenceResult output normalized picked checked byRegion valueMap
  exact Cert.ReferenceIdeal.Value.run m ρ

/-- The reference's result from real arguments. -/
theorem referenceResult_eq (m : (ℓ : Loc nD τ sig) → Buf (Elt Ideal) ℓ) (d : Dev nD) (x : Fin 16 → Fin 1025 → Fin 768 → ℝ)
    (Wq : Fin 768 → Fin 768 → ℝ) (bq : Fin 768 → ℝ) (W : Fin 1536 → Fin 768 → ℝ) (bkv : Fin 1536 → ℝ)
    (h0 : ∀ b n i, (m ((d.tc : Thread nD τ).loc main_arg0) : Vec Ideal S16x1025x768 .f32) (ix3 b n i) = (x b n i : EReal))
    (h1 : ∀ c i, (m ((d.tc : Thread nD τ).loc main_arg1) : Vec Ideal S768x768 .f32) (ix2 c i) = (Wq c i : EReal))
    (h2 : ∀ c, (m ((d.tc : Thread nD τ).loc main_arg2) : Vec Ideal S768 .f32) (ix1 c) = (bq c : EReal))
    (h3 : ∀ c i, (m ((d.tc : Thread nD τ).loc main_arg3) : Vec Ideal S1536x768 .f32) (ix2 c i) = (W c i : EReal))
    (h4 : ∀ c, (m ((d.tc : Thread nD τ).loc main_arg4) : Vec Ideal S1536 .f32) (ix1 c) = (bkv c : EReal)) :
    referenceResult (launchContents m d) = result x Wq bq W bkv (m ((d.tc : Thread nD τ).loc main_arg5))
      (m ((d.tc : Thread nD τ).loc main_arg6)) := by
  funext j
  obtain ⟨b, o, rfl⟩ : ∃ (b : Fin 16) (o : Fin 1536), j = ix3 b 0 o := by
    refine ⟨j 0, j 2, funext fun a => ?_⟩
    match a with
    | ⟨0, _⟩ => rfl
    | ⟨1, _⟩ => exact Fin.ext (Nat.lt_one_iff.mp (j 1).isLt)
    | ⟨2, _⟩ => rfl
  exact result_apply (launchContents m d) _ _ x Wq bq W bkv h0 h1 h2 h3 h4 b o

end Reference

/-- The kernel and the reference leave equal results. -/
theorem algebraic : Cert.algebraic_KernelIdeal_ReferenceIdeal_pre_finite := by
  intro m g m' g' hpre hagree
  refine ⟨fun c => (Cert.KernelIdeal.Gen.dats m 0 c).arrAt 8 Cert.KernelIdeal.cfg0.N,
    Cert.KernelIdeal.Value.run_blocks (F := Ideal) m g, ?_⟩
  refine (θ_run Cert.ReferenceIdeal.defs _ _).mono (fun _ h c => ⟨(h c).1.trans ?_, (h c).2⟩) (reference_run m' g')
  obtain ⟨e0, e1, e2, e3, e4, e5, e6⟩ := hagree c
  obtain ⟨r0, r1, r2, r3, r4⟩ := Cert.Finite.args_real _ _ _ _ _ _ _ (hpre c)
  choose x hx using r0
  choose Wq hWq using r1
  choose bq hbq using r2
  choose W hW using r3
  choose bkv hbkv using r4
  refine Eq.trans (b := result (fun b n i => x (ix3 b n i)) (fun c i => Wq (ix2 c i)) (fun c => bq (ix1 c))
    (fun c i => W (ix2 c i)) (fun c => bkv (ix1 c)) (m ((c : Thread Cert.KernelIdeal.nD Cert.KernelIdeal.τ).loc Cert.KernelIdeal.main_arg5))
    (m ((c : Thread Cert.KernelIdeal.nD Cert.KernelIdeal.τ).loc Cert.KernelIdeal.main_arg6))) ?_ ?_
  · rw [← e5, ← e6]
    exact referenceResult_eq m' c _ _ _ _ _
      (fun b n i => (congrFun e0 _).trans (hx _)) (fun c i => (congrFun e1 _).trans (hWq _))
      (fun c => (congrFun e2 _).trans (hbq _)) (fun c i => (congrFun e3 _).trans (hW _))
      (fun c => (congrFun e4 _).trans (hbkv _))
  · exact (Cert.KernelIdeal.Body.array_apply m c (fun b n i => x (ix3 b n i)) (fun c i => Wq (ix2 c i)) (fun c => bq (ix1 c))
      (fun c i => W (ix2 c i)) (fun c => bkv (ix1 c)) (fun b n i => hx _) (fun c i => hWq _) (fun c => hbq _)
      (fun c i => hW _) (fun c => hbkv _)).symm

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    Cert.Frames.kernel, Cert.Frames.kernelIdeal, Cert.Frames.kernelIdeal_finite, Cert.Frames.referenceIdeal,
    Cert.Frames.referenceIdeal_finite, Cert.Frames.preserves, Cert.Algebraic.algebraic⟩

end Cert.Proof

end
